-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1_0) = v0 c
          ∧ r.2.mem ((c.tc : Thread Cert.ReferenceIdeal.nD Cert.ReferenceIdeal.τ).loc Cert.ReferenceIdeal.main_v1_1) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S24x683x3584 : Shape := ⟨3, ![24, 683, 3584]⟩
abbrev S24 : Shape := ⟨1, ![24]⟩
abbrev S24x2x2176x3584 : Shape := ⟨4, ![24, 2, 2176, 3584]⟩
abbrev S24x2x17x28 : Shape := ⟨4, ![24, 2, 17, 28]⟩
abbrev S24x683x2176 : Shape := ⟨3, ![24, 683, 2176]⟩
abbrev S24x683x17 : Shape := ⟨3, ![24, 683, 17]⟩
abbrev S1x683x3584 : Shape := ⟨3, ![1, 683, 3584]⟩
abbrev S1x2x128x3584 : Shape := ⟨4, ![1, 2, 128, 3584]⟩
abbrev S1x2x17x28 : Shape := ⟨4, ![1, 2, 17, 28]⟩
abbrev S1x683x128 : Shape := ⟨3, ![1, 683, 128]⟩
abbrev S1x683x17 : Shape := ⟨3, ![1, 683, 17]⟩
abbrev S704x3584 : Shape := ⟨2, ![704, 3584]⟩
abbrev S256x3584 : Shape := ⟨2, ![256, 3584]⟩
abbrev S704x128 : Shape := ⟨2, ![704, 128]⟩
abbrev S1 : Shape := ⟨1, ![1]⟩
abbrev S1x128x128 : Shape := ⟨3, ![1, 128, 128]⟩
abbrev S128x128 : Shape := ⟨2, ![128, 128]⟩
abbrev S128 : Shape := ⟨1, ![128]⟩
abbrev S128x1 : Shape := ⟨2, ![128, 1]⟩
abbrev S128x256 : Shape := ⟨2, ![128, 256]⟩
abbrev S1x43x128 : Shape := ⟨3, ![1, 43, 128]⟩
abbrev S43x128 : Shape := ⟨2, ![43, 128]⟩
abbrev S43 : Shape := ⟨1, ![43]⟩
abbrev S43x1 : Shape := ⟨2, ![43, 1]⟩
abbrev S43x256 : Shape := ⟨2, ![43, 256]⟩
abbrev S44x128 : Shape := ⟨2, ![44, 128]⟩
abbrev S1x1x1x1 : Shape := ⟨4, ![1, 1, 1, 1]⟩
abbrev S1x1x128x128 : Shape := ⟨4, ![1, 1, 128, 128]⟩
abbrev S128x3584 : Shape := ⟨2, ![128, 3584]⟩
abbrev S128x17 : Shape := ⟨2, ![128, 17]⟩
abbrev S1x128x17 : Shape := ⟨3, ![1, 128, 17]⟩
abbrev S64x3584 : Shape := ⟨2, ![64, 3584]⟩
abbrev S64x256 : Shape := ⟨2, ![64, 256]⟩
abbrev S64x128 : Shape := ⟨2, ![64, 128]⟩
abbrev S64 : Shape := ⟨1, ![64]⟩
abbrev S64x1 : Shape := ⟨2, ![64, 1]⟩
abbrev S43x17 : Shape := ⟨2, ![43, 17]⟩
abbrev S1x43x17 : Shape := ⟨3, ![1, 43, 17]⟩
abbrev S683x128 : Shape := ⟨2, ![683, 128]⟩

abbrev nBuf : Space → Nat
  | .hbm => 5
  | .vmem => 11
  | .smem => 3
  | _ => 0

abbrev bufTy : (tb : Table) → Fin (tcTables nBuf tb) → BufTy
  | .hbm, ⟨0, _⟩ => ⟨S24x683x3584, .bf16⟩
  | .hbm, ⟨1, _⟩ => ⟨S24x2x2176x3584, .fp8e4m3⟩
  | .hbm, ⟨2, _⟩ => ⟨S24x2x17x28, .f32⟩
  | .hbm, ⟨3, _⟩ => ⟨S24x683x2176, .fp8e4m3⟩
  | .hbm, ⟨4, _⟩ => ⟨S24x683x17, .f32⟩
  | .local _ .vmem, ⟨0, _⟩ => ⟨S1x683x3584, .bf16⟩
  | .local _ .vmem, ⟨1, _⟩ => ⟨S1x683x3584, .bf16⟩
  | .local _ .vmem, ⟨2, _⟩ => ⟨S1x2x128x3584, .fp8e4m3⟩
  | .local _ .vmem, ⟨3, _⟩ => ⟨S1x2x128x3584, .fp8e4m3⟩
  | .local _ .vmem, ⟨4, _⟩ => ⟨S1x683x128, .fp8e4m3⟩
  | .local _ .vmem, ⟨5, _⟩ => ⟨S1x683x128, .fp8e4m3⟩
  | .local _ .vmem, ⟨6, _⟩ => ⟨S1x683x17, .f32⟩
  | .local _ .vmem, ⟨7, _⟩ => ⟨S1x683x17, .f32⟩
  | .local _ .vmem, ⟨8, _⟩ => ⟨S704x3584, .bf16⟩
  | .local _ .vmem, ⟨9, _⟩ => ⟨S256x3584, .bf16⟩
  | .local _ .vmem, ⟨10, _⟩ => ⟨S704x128, .fp8e4m3⟩
  | .local _ .smem, ⟨0, _⟩ => ⟨S24, .i32⟩
  | .local _ .smem, ⟨1, _⟩ => ⟨S1x2x17x28, .f32⟩
  | .local _ .smem, ⟨2, _⟩ => ⟨S1x2x17x28, .f32⟩
  | _, _ => ⟨S24x683x3584, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .smem, ⟨1, _⟩ => true
  | .smem, ⟨2, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg2 : Ref sig .tc := ⟨.hbm, 1, rfl⟩
abbrev main_arg3 : Ref sig .tc := ⟨.hbm, 2, rfl⟩
abbrev main_v0_0 : Ref sig .tc := ⟨.hbm, 3, rfl⟩
abbrev main_v0_1 : Ref sig .tc := ⟨.hbm, 4, rfl⟩
abbrev main_arg1 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_stg2_0 : Ref sig .tc := ⟨.smem, 1, rfl⟩
abbrev cc0_stg2_1 : Ref sig .tc := ⟨.smem, 2, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![24, 17], ![false, false]⟩

abbrev pre0 : Pipeline.Prefetch sig := ⟨1, ![main_arg1.idx], fun | 0 => main_arg1.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 4 → Nat :=
  let c0_16 : Index := 0#32
  let c0_17 : Index := 0#32
  let arg1 : BitVec 32 := BitVec.ofNat 32 (i 1).val
  let v34 : Index := Scalar.indexCast arg1
  let c0_18 : Index := 0#32
  ![0, 0, v34.toNat, 0]
def k0_off3 (i : grid0.Coords) : Fin 4 → Nat :=
  let c0_25 : Index := 0#32
  let c0_26 : Index := 0#32
  let arg1 : BitVec 32 := BitVec.ofNat 32 (i 1).val
  let v45 : Index := Scalar.indexCast arg1
  let c1 : Index := 1#32
  ![0, 0, v45.toNat, 1]
def k0_off4 (i : grid0.Coords) : Fin 4 → Nat :=
  let c0_32 : Index := 0#32
  let c0_33 : Index := 0#32
  let arg1 : BitVec 32 := BitVec.ofNat 32 (i 1).val
  let v56 : Index := Scalar.indexCast arg1
  let c2 : Index := 2#32
  ![0, 0, v56.toNat, 2]
def k0_off5 (i : grid0.Coords) : Fin 4 → Nat :=
  let c0_39 : Index := 0#32
  let c0_40 : Index := 0#32
  let arg1 : BitVec 32 := BitVec.ofNat 32 (i 1).val
  let v67 : Index := Scalar.indexCast arg1
  let c3 : Index := 3#32
  ![0, 0, v67.toNat, 3]
def k0_off6 (i : grid0.Coords) : Fin 4 → Nat :=
  let c0_46 : Index := 0#32
  let c0_47 : Index := 0#32
  let arg1 : BitVec 32 := BitVec.ofNat 32 (i 1).val
  let v78 : Index := Scalar.indexCast arg1
  let c4 : Index := 4#32
  ![0, 0, v78.toNat, 4]
def k0_off7 (i : grid0.Coords) : Fin 4 → Nat :=
  let c0_53 : Index := 0#32
  let c0_54 : Index := 0#32
  let arg1 : BitVec 32 := BitVec.ofNat 32 (i 1).val
  let v89 : Index := Scalar.indexCast arg1
  let c5 : Index := 5#32
  ![0, 0, v89.toNat, 5]
def k0_off8 (i : grid0.Coords) : Fin 4 → Nat :=
  let c0_60 : Index := 0#32
  let c0_61 : Index := 0#32
  let arg1 : BitVec 32 := BitVec.ofNat 32 (i 1).val
  let v100 : Index := Scalar.indexCast arg1
  let c6 : Index := 6#32
  ![0, 0, v100.toNat, 6]
def k0_off9 (i : grid0.Coords) : Fin 4 → Nat :=
  let c0_67 : Index := 0#32
  let c0_68 : Index := 0#32
  let arg1 : BitVec 32 := BitVec.ofNat 32 (i 1).val
  let v111 : Index := Scalar.indexCast arg1
  let c7 : Index := 7#32
  ![0, 0, v111.toNat, 7]
def k0_off10 (i : grid0.Coords) : Fin 4 → Nat :=
  let c0_74 : Index := 0#32
  let c0_75 : Index := 0#32
  let arg1 : BitVec 32 := BitVec.ofNat 32 (i 1).val
  let v122 : Index := Scalar.indexCast arg1
  let c8 : Index := 8#32
  ![0, 0, v122.toNat, 8]
def k0_off11 (i : grid0.Coords) : Fin 4 → Nat :=
  let c0_81 : Index := 0#32
  let c0_82 : Index := 0#32
  let arg1 : BitVec 32 := BitVec.ofNat 32 (i 1).val
  let v133 : Index := Scalar.indexCast arg1
  let c9 : Index := 9#32
  ![0, 0, v133.toNat, 9]
def k0_off12 (i : grid0.Coords) : Fin 4 → Nat :=
  let c0_88 : Index := 0#32
  let c0_89 : Index := 0#32
  let arg1 : BitVec 32 := BitVec.ofNat 32 (i 1).val
  let v144 : Index := Scalar.indexCast arg1
  let c10 : Index := 10#32
  ![0, 0, v144.toNat, 10]
def k0_off13 (i : grid0.Coords) : Fin 4 → Nat :=
  let c0_95 : Index := 0#32
  let c0_96 : Index := 0#32
  let arg1 : BitVec 32 := BitVec.ofNat 32 (i 1).val
  let v155 : Index := Scalar.indexCast arg1
  let c11 : Index := 11#32
  ![0, 0, v155.toNat, 11]
def k0_off14 (i : grid0.Coords) : Fin 4 → Nat :=
  let c0_102 : Index := 0#32
  let c0_103 : Index := 0#32
  let arg1 : BitVec 32 := BitVec.ofNat 32 (i 1).val
  let v166 : Index := Scalar.indexCast arg1
  let c12 : Index := 12#32
  ![0, 0, v166.toNat, 12]
def k0_off15 (i : grid0.Coords) : Fin 4 → Nat :=
  let c0_109 : Index := 0#32
  let c0_110 : Index := 0#32
  let arg1 : BitVec 32 := BitVec.ofNat 32 (i 1).val
  let v177 : Index := Scalar.indexCast arg1
  let c13 : Index := 13#32
  ![0, 0, v177.toNat, 13]
def k0_off16 (i : grid0.Coords) : Fin 4 → Nat :=
  let c0_116 : Index := 0#32
  let c0_117 : Index := 0#32
  let arg1 : BitVec 32 := BitVec.ofNat 32 (i 1).val
  let v188 : Index := Scalar.indexCast arg1
  let c14 : Index := 14#32
  ![0, 0, v188.toNat, 14]
def k0_off17 (i : grid0.Coords) : Fin 4 → Nat :=
  let c0_123 : Index := 0#32
  let c0_124 : Index := 0#32
  let arg1 : BitVec 32 := BitVec.ofNat 32 (i 1).val
  let v199 : Index := Scalar.indexCast arg1
  let c15 : Index := 15#32
  ![0, 0, v199.toNat, 15]
def k0_off18 (i : grid0.Coords) : Fin 4 → Nat :=
  let c0_130 : Index := 0#32
  let c0_131 : Index := 0#32
  let arg1 : BitVec 32 := BitVec.ofNat 32 (i 1).val
  let v210 : Index := Scalar.indexCast arg1
  let c16 : Index := 16#32
  ![0, 0, v210.toNat, 16]
def k0_off19 (i : grid0.Coords) : Fin 4 → Nat :=
  let c0_137 : Index := 0#32
  let c0_138 : Index := 0#32
  let arg1 : BitVec 32 := BitVec.ofNat 32 (i 1).val
  let v221 : Index := Scalar.indexCast arg1
  let c17 : Index := 17#32
  ![0, 0, v221.toNat, 17]
def k0_off20 (i : grid0.Coords) : Fin 4 → Nat :=
  let c0_144 : Index := 0#32
  let c0_145 : Index := 0#32
  let arg1 : BitVec 32 := BitVec.ofNat 32 (i 1).val
  let v232 : Index := Scalar.indexCast arg1
  let c18 : Index := 18#32
  ![0, 0, v232.toNat, 18]
def k0_off21 (i : grid0.Coords) : Fin 4 → Nat :=
  let c0_151 : Index := 0#32
  let c0_152 : Index := 0#32
  let arg1 : BitVec 32 := BitVec.ofNat 32 (i 1).val
  let v243 : Index := Scalar.indexCast arg1
  let c19 : Index := 19#32
  ![0, 0, v243.toNat, 19]
def k0_off22 (i : grid0.Coords) : Fin 4 → Nat :=
  let c0_158 : Index := 0#32
  let c0_159 : Index := 0#32
  let arg1 : BitVec 32 := BitVec.ofNat 32 (i 1).val
  let v254 : Index := Scalar.indexCast arg1
  let c20 : Index := 20#32
  ![0, 0, v254.toNat, 20]
def k0_off23 (i : grid0.Coords) : Fin 4 → Nat :=
  let c0_165 : Index := 0#32
  let c0_166 : Index := 0#32
  let arg1 : BitVec 32 := BitVec.ofNat 32 (i 1).val
  let v265 : Index := Scalar.indexCast arg1
  let c21 : Index := 21#32
  ![0, 0, v265.toNat, 21]
def k0_off24 (i : grid0.Coords) : Fin 4 → Nat :=
  let c0_172 : Index := 0#32
  let c0_173 : Index := 0#32
  let arg1 : BitVec 32 := BitVec.ofNat 32 (i 1).val
  let v276 : Index := Scalar.indexCast arg1
  let c22 : Index := 22#32
  ![0, 0, v276.toNat, 22]
def k0_off25 (i : grid0.Coords) : Fin 4 → Nat :=
  let c0_179 : Index := 0#32
  let c0_180 : Index := 0#32
  let arg1 : BitVec 32 := BitVec.ofNat 32 (i 1).val
  let v287 : Index := Scalar.indexCast arg1
  let c23 : Index := 23#32
  ![0, 0, v287.toNat, 23]
def k0_off26 (i : grid0.Coords) : Fin 4 → Nat :=
  let c0_186 : Index := 0#32
  let c0_187 : Index := 0#32
  let arg1 : BitVec 32 := BitVec.ofNat 32 (i 1).val
  let v298 : Index := Scalar.indexCast arg1
  let c24 : Index := 24#32
  ![0, 0, v298.toNat, 24]
def k0_off27 (i : grid0.Coords) : Fin 4 → Nat :=
  let c0_193 : Index := 0#32
  let c0_194 : Index := 0#32
  let arg1 : BitVec 32 := BitVec.ofNat 32 (i 1).val
  let v309 : Index := Scalar.indexCast arg1
  let c25 : Index := 25#32
  ![0, 0, v309.toNat, 25]
def k0_off28 (i : grid0.Coords) : Fin 4 → Nat :=
  let c0_200 : Index := 0#32
  let c0_201 : Index := 0#32
  let arg1 : BitVec 32 := BitVec.ofNat 32 (i 1).val
  let v320 : Index := Scalar.indexCast arg1
  let c26 : Index := 26#32
  ![0, 0, v320.toNat, 26]
def k0_off29 (i : grid0.Coords) : Fin 4 → Nat :=
  let c0_207 : Index := 0#32
  let c0_208 : Index := 0#32
  let arg1 : BitVec 32 := BitVec.ofNat 32 (i 1).val
  let v331 : Index := Scalar.indexCast arg1
  let c27 : Index := 27#32
  ![0, 0, v331.toNat, 27]
def k0_off30 (i : grid0.Coords) : Fin 4 → Nat :=
  let c0_214 : Index := 0#32
  let c1_215 : Index := 1#32
  let arg1 : BitVec 32 := BitVec.ofNat 32 (i 1).val
  let v342 : Index := Scalar.indexCast arg1
  let c0_216 : Index := 0#32
  ![0, 1, v342.toNat, 0]
def k0_off31 (i : grid0.Coords) : Fin 4 → Nat :=
  let c0_223 : Index := 0#32
  let c1_224 : Index := 1#32
  let arg1 : BitVec 32 := BitVec.ofNat 32 (i 1).val
  let v353 : Index := Scalar.indexCast arg1
  let c1_225 : Index := 1#32
  ![0, 1, v353.toNat, 1]
def k0_off32 (i : grid0.Coords) : Fin 4 → Nat :=
  let c0_232 : Index := 0#32
  let c1_233 : Index := 1#32
  let arg1 : BitVec 32 := BitVec.ofNat 32 (i 1).val
  let v364 : Index := Scalar.indexCast arg1
  let c2_234 : Index := 2#32
  ![0, 1, v364.toNat, 2]
def k0_off33 (i : grid0.Coords) : Fin 4 → Nat :=
  let c0_241 : Index := 0#32
  let c1_242 : Index := 1#32
  let arg1 : BitVec 32 := BitVec.ofNat 32 (i 1).val
  let v375 : Index := Scalar.indexCast arg1
  let c3_243 : Index := 3#32
  ![0, 1, v375.toNat, 3]
def k0_off34 (i : grid0.Coords) : Fin 4 → Nat :=
  let c0_250 : Index := 0#32
  let c1_251 : Index := 1#32
  let arg1 : BitVec 32 := BitVec.ofNat 32 (i 1).val
  let v386 : Index := Scalar.indexCast arg1
  let c4_252 : Index := 4#32
  ![0, 1, v386.toNat, 4]
def k0_off35 (i : grid0.Coords) : Fin 4 → Nat :=
  let c0_259 : Index := 0#32
  let c1_260 : Index := 1#32
  let arg1 : BitVec 32 := BitVec.ofNat 32 (i 1).val
  let v397 : Index := Scalar.indexCast arg1
  let c5_261 : Index := 5#32
  ![0, 1, v397.toNat, 5]
def k0_off36 (i : grid0.Coords) : Fin 4 → Nat :=
  let c0_268 : Index := 0#32
  let c1_269 : Index := 1#32
  let arg1 : BitVec 32 := BitVec.ofNat 32 (i 1).val
  let v408 : Index := Scalar.indexCast arg1
  let c6_270 : Index := 6#32
  ![0, 1, v408.toNat, 6]
def k0_off37 (i : grid0.Coords) : Fin 4 → Nat :=
  let c0_277 : Index := 0#32
  let c1_278 : Index := 1#32
  let arg1 : BitVec 32 := BitVec.ofNat 32 (i 1).val
  let v419 : Index := Scalar.indexCast arg1
  let c7_279 : Index := 7#32
  ![0, 1, v419.toNat, 7]
def k0_off38 (i : grid0.Coords) : Fin 4 → Nat :=
  let c0_286 : Index := 0#32
  let c1_287 : Index := 1#32
  let arg1 : BitVec 32 := BitVec.ofNat 32 (i 1).val
  let v430 : Index := Scalar.indexCast arg1
  let c8_288 : Index := 8#32
  ![0, 1, v430.toNat, 8]
def k0_off39 (i : grid0.Coords) : Fin 4 → Nat :=
  let c0_295 : Index := 0#32
  let c1_296 : Index := 1#32
  let arg1 : BitVec 32 := BitVec.ofNat 32 (i 1).val
  let v441 : Index := Scalar.indexCast arg1
  let c9_297 : Index := 9#32
  ![0, 1, v441.toNat, 9]
def k0_off40 (i : grid0.Coords) : Fin 4 → Nat :=
  let c0_304 : Index := 0#32
  let c1_305 : Index := 1#32
  let arg1 : BitVec 32 := BitVec.ofNat 32 (i 1).val
  let v452 : Index := Scalar.indexCast arg1
  let c10_306 : Index := 10#32
  ![0, 1, v452.toNat, 10]
def k0_off41 (i : grid0.Coords) : Fin 4 → Nat :=
  let c0_313 : Index := 0#32
  let c1_314 : Index := 1#32
  let arg1 : BitVec 32 := BitVec.ofNat 32 (i 1).val
  let v463 : Index := Scalar.indexCast arg1
  let c11_315 : Index := 11#32
  ![0, 1, v463.toNat, 11]
def k0_off42 (i : grid0.Coords) : Fin 4 → Nat :=
  let c0_322 : Index := 0#32
  let c1_323 : Index := 1#32
  let arg1 : BitVec 32 := BitVec.ofNat 32 (i 1).val
  let v474 : Index := Scalar.indexCast arg1
  let c12_324 : Index := 12#32
  ![0, 1, v474.toNat, 12]
def k0_off43 (i : grid0.Coords) : Fin 4 → Nat :=
  let c0_331 : Index := 0#32
  let c1_332 : Index := 1#32
  let arg1 : BitVec 32 := BitVec.ofNat 32 (i 1).val
  let v485 : Index := Scalar.indexCast arg1
  let c13_333 : Index := 13#32
  ![0, 1, v485.toNat, 13]
def k0_off44 (i : grid0.Coords) : Fin 4 → Nat :=
  let c0_340 : Index := 0#32
  let c1_341 : Index := 1#32
  let arg1 : BitVec 32 := BitVec.ofNat 32 (i 1).val
  let v496 : Index := Scalar.indexCast arg1
  let c14_342 : Index := 14#32
  ![0, 1, v496.toNat, 14]
def k0_off45 (i : grid0.Coords) : Fin 4 → Nat :=
  let c0_349 : Index := 0#32
  let c1_350 : Index := 1#32
  let arg1 : BitVec 32 := BitVec.ofNat 32 (i 1).val
  let v507 : Index := Scalar.indexCast arg1
  let c15_351 : Index := 15#32
  ![0, 1, v507.toNat, 15]
def k0_off46 (i : grid0.Coords) : Fin 4 → Nat :=
  let c0_358 : Index := 0#32
  let c1_359 : Index := 1#32
  let arg1 : BitVec 32 := BitVec.ofNat 32 (i 1).val
  let v518 : Index := Scalar.indexCast arg1
  let c16_360 : Index := 16#32
  ![0, 1, v518.toNat, 16]
def k0_off47 (i : grid0.Coords) : Fin 4 → Nat :=
  let c0_367 : Index := 0#32
  let c1_368 : Index := 1#32
  let arg1 : BitVec 32 := BitVec.ofNat 32 (i 1).val
  let v529 : Index := Scalar.indexCast arg1
  let c17_369 : Index := 17#32
  ![0, 1, v529.toNat, 17]
def k0_off48 (i : grid0.Coords) : Fin 4 → Nat :=
  let c0_376 : Index := 0#32
  let c1_377 : Index := 1#32
  let arg1 : BitVec 32 := BitVec.ofNat 32 (i 1).val
  let v540 : Index := Scalar.indexCast arg1
  let c18_378 : Index := 18#32
  ![0, 1, v540.toNat, 18]
def k0_off49 (i : grid0.Coords) : Fin 4 → Nat :=
  let c0_385 : Index := 0#32
  let c1_386 : Index := 1#32
  let arg1 : BitVec 32 := BitVec.ofNat 32 (i 1).val
  let v551 : Index := Scalar.indexCast arg1
  let c19_387 : Index := 19#32
  ![0, 1, v551.toNat, 19]
def k0_off50 (i : grid0.Coords) : Fin 4 → Nat :=
  let c0_394 : Index := 0#32
  let c1_395 : Index := 1#32
  let arg1 : BitVec 32 := BitVec.ofNat 32 (i 1).val
  let v562 : Index := Scalar.indexCast arg1
  let c20_396 : Index := 20#32
  ![0, 1, v562.toNat, 20]
def k0_off51 (i : grid0.Coords) : Fin 4 → Nat :=
  let c0_403 : Index := 0#32
  let c1_404 : Index := 1#32
  let arg1 : BitVec 32 := BitVec.ofNat 32 (i 1).val
  let v573 : Index := Scalar.indexCast arg1
  let c21_405 : Index := 21#32
  ![0, 1, v573.toNat, 21]
def k0_off52 (i : grid0.Coords) : Fin 4 → Nat :=
  let c0_412 : Index := 0#32
  let c1_413 : Index := 1#32
  let arg1 : BitVec 32 := BitVec.ofNat 32 (i 1).val
  let v584 : Index := Scalar.indexCast arg1
  let c22_414 : Index := 22#32
  ![0, 1, v584.toNat, 22]
def k0_off53 (i : grid0.Coords) : Fin 4 → Nat :=
  let c0_421 : Index := 0#32
  let c1_422 : Index := 1#32
  let arg1 : BitVec 32 := BitVec.ofNat 32 (i 1).val
  let v595 : Index := Scalar.indexCast arg1
  let c23_423 : Index := 23#32
  ![0, 1, v595.toNat, 23]
def k0_off54 (i : grid0.Coords) : Fin 4 → Nat :=
  let c0_430 : Index := 0#32
  let c1_431 : Index := 1#32
  let arg1 : BitVec 32 := BitVec.ofNat 32 (i 1).val
  let v606 : Index := Scalar.indexCast arg1
  let c24_432 : Index := 24#32
  ![0, 1, v606.toNat, 24]
def k0_off55 (i : grid0.Coords) : Fin 4 → Nat :=
  let c0_439 : Index := 0#32
  let c1_440 : Index := 1#32
  let arg1 : BitVec 32 := BitVec.ofNat 32 (i 1).val
  let v617 : Index := Scalar.indexCast arg1
  let c25_441 : Index := 25#32
  ![0, 1, v617.toNat, 25]
def k0_off56 (i : grid0.Coords) : Fin 4 → Nat :=
  let c0_448 : Index := 0#32
  let c1_449 : Index := 1#32
  let arg1 : BitVec 32 := BitVec.ofNat 32 (i 1).val
  let v628 : Index := Scalar.indexCast arg1
  let c26_450 : Index := 26#32
  ![0, 1, v628.toNat, 26]
def k0_off57 (i : grid0.Coords) : Fin 4 → Nat :=
  let c0_457 : Index := 0#32
  let c1_458 : Index := 1#32
  let arg1 : BitVec 32 := BitVec.ofNat 32 (i 1).val
  let v639 : Index := Scalar.indexCast arg1
  let c27_459 : Index := 27#32
  ![0, 1, v639.toNat, 27]
def k0_cond1 (i : grid0.Coords) : BitVec 1 :=
  let arg1 : BitVec 32 := BitVec.ofNat 32 (i 1).val
  let c0_i32 : BitVec 32 := 0#32
  let v2 : BitVec 1 := Scalar.cmpi .eq arg1 c0_i32
  let v3 : BitVec 32 := Scalar.extui v2
  let c0_i32_0 : BitVec 32 := 0#32
  let v4 : BitVec 1 := Scalar.cmpi .ne v3 c0_i32_0
  v4

def k0_cond9 (v1 : BitVec 32) : BitVec 1 :=
  let c0_i32_4 : BitVec 32 := 0#32
  let v12 : BitVec 1 := Scalar.cmpi .sgt v1 c0_i32_4
  let v13 : BitVec 32 := Scalar.extui v12
  let c0_i32_5 : BitVec 32 := 0#32
  let v14 : BitVec 1 := Scalar.cmpi .ne v13 c0_i32_5
  v14

def k0_cond10 (v1 : BitVec 32) : BitVec 1 :=
  let c128_i32 : BitVec 32 := 128#32
  let v15 : BitVec 1 := Scalar.cmpi .sgt v1 c128_i32
  let v16 : BitVec 32 := Scalar.extui v15
  let c0_i32_6 : BitVec 32 := 0#32
  let v17 : BitVec 1 := Scalar.cmpi .ne v16 c0_i32_6
  v17

def k0_cond11 (v1 : BitVec 32) : BitVec 1 :=
  let c256_i32 : BitVec 32 := 256#32
  let v18 : BitVec 1 := Scalar.cmpi .sgt v1 c256_i32
  let v19 : BitVec 32 := Scalar.extui v18
  let c0_i32_7 : BitVec 32 := 0#32
  let v20 : BitVec 1 := Scalar.cmpi .ne v19 c0_i32_7
  v20

def k0_cond12 (v1 : BitVec 32) : BitVec 1 :=
  let c384_i32 : BitVec 32 := 384#32
  let v21 : BitVec 1 := Scalar.cmpi .sgt v1 c384_i32
  let v22 : BitVec 32 := Scalar.extui v21
  let c0_i32_8 : BitVec 32 := 0#32
  let v23 : BitVec 1 := Scalar.cmpi .ne v22 c0_i32_8
  v23

def k0_cond13 (v1 : BitVec 32) : BitVec 1 :=
  let c512_i32 : BitVec 32 := 512#32
  let v24 : BitVec 1 := Scalar.cmpi .sgt v1 c512_i32
  let v25 : BitVec 32 := Scalar.extui v24
  let c0_i32_9 : BitVec 32 := 0#32
  let v26 : BitVec 1 := Scalar.cmpi .ne v25 c0_i32_9
  v26

def k0_cond14 (v1 : BitVec 32) : BitVec 1 :=
  let c640_i32 : BitVec 32 := 640#32
  let v27 : BitVec 1 := Scalar.cmpi .sgt v1 c640_i32
  let v28 : BitVec 32 := Scalar.extui v27
  let c0_i32_10 : BitVec 32 := 0#32
  let v29 : BitVec 1 := Scalar.cmpi .ne v28 c0_i32_10
  v29

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x683x3584 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2x128x3584 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .smem S1x2x17x28 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x683x128 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x683x17 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== ReferenceIdeal.lean ====
abbrev S24x683x3584 : Shape := ⟨3, ![24, 683, 3584]⟩
abbrev S24 : Shape := ⟨1, ![24]⟩
abbrev S24x2x2176x3584 : Shape := ⟨4, ![24, 2, 2176, 3584]⟩
abbrev S24x2x17x28 : Shape := ⟨4, ![24, 2, 17, 28]⟩
abbrev S24x1x1 : Shape := ⟨3, ![24, 1, 1]⟩
abbrev S24x683x2176 : Shape := ⟨3, ![24, 683, 2176]⟩
abbrev S24x683x17 : Shape := ⟨3, ![24, 683, 17]⟩
abbrev S24x683x28x128 : Shape := ⟨4, ![24, 683, 28, 128]⟩
abbrev S24x683x28 : Shape := ⟨3, ![24, 683, 28]⟩
abbrev S24x683x28x1 : Shape := ⟨4, ![24, 683, 28, 1]⟩
abbrev S24x2x17x128x28x128 : Shape := ⟨6, ![24, 2, 17, 128, 28, 128]⟩
abbrev S24x2x17x1x28x1 : Shape := ⟨6, ![24, 2, 17, 1, 28, 1]⟩
abbrev S24x1x2176x3584 : Shape := ⟨4, ![24, 1, 2176, 3584]⟩
abbrev S24x2176x3584 : Shape := ⟨3, ![24, 2176, 3584]⟩
abbrev S24x683x1 : Shape := ⟨3, ![24, 683, 1]⟩
abbrev S24x683x17x128 : Shape := ⟨4, ![24, 683, 17, 128]⟩
abbrev S24x683x17x1 : Shape := ⟨4, ![24, 683, 17, 1]⟩

abbrev nBuf : Space → Nat
  | .hbm => 7
  | .vmem => 6
  | .smem => 0
  | _ => 0

abbrev bufTy : (tb : Table) → Fin (tcTables nBuf tb) → BufTy
  | .hbm, ⟨0, _⟩ => ⟨S24x683x3584, .bf16⟩
  | .hbm, ⟨1, _⟩ => ⟨S24, .i32⟩
  | .hbm, ⟨2, _⟩ => ⟨S24x2x2176x3584, .fp8e4m3⟩
  | .hbm, ⟨3, _⟩ => ⟨S24x2x17x28, .f32⟩
  | .hbm, ⟨4, _⟩ => ⟨S24x1x1, .i32⟩
  | .hbm, ⟨5, _⟩ => ⟨S24x683x2176, .fp8e4m3⟩
  | .hbm, ⟨6, _⟩ => ⟨S24x683x17, .f32⟩
  | .local _ .vmem, ⟨0, _⟩ => ⟨S24x683x3584, .bf16⟩
  | .local _ .vmem, ⟨1, _⟩ => ⟨S24x1x1, .i32⟩
  | .local _ .vmem, ⟨2, _⟩ => ⟨S24x2x2176x3584, .fp8e4m3⟩
  | .local _ .vmem, ⟨3, _⟩ => ⟨S24x2x17x28, .f32⟩
  | .local _ .vmem, ⟨4, _⟩ => ⟨S24x683x2176, .fp8e4m3⟩
  | .local _ .vmem, ⟨5, _⟩ => ⟨S24x683x17, .f32⟩
  | _, _ => ⟨S24x683x3584, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S24x683x3584 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S24x1x1 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S24x2x2176x3584 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S24x2x17x28 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S24x683x2176 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S24x683x17 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.Body.lean ====
/- The kernel's body as a program of whole blocks: the printed function, cut by count into windows, is shown equal
   to loops over the quantisation blocks, the weight blocks and the row chunks. -/
module

public import proofs.«01_k».proof.Proof.Gen.KernelIdeal.Launch

@[expose] public section

noncomputable section

namespace Cert.KernelIdeal.Body

open Idealize.ShloMosaic Idealize.SL.Sem
open Cert.KernelIdeal

variable {F : FTy → Type} [FloatOps F]
variable [Facts]
open Facts₀ Facts

/-- Programs of the kernel. -/
abbrev KProg (F : FTy → Type) [FloatOps F] := Prog (TpuEff nD τ sig (Elt F) Λ₀ .tc)

/-- A list's programs in order. -/
def seqL {F : FTy → Type} [FloatOps F] {α : Type} (f : α → KProg F PUnit) : List α → KProg F PUnit
  | [] => pure ⟨⟩
  | a :: L => f a >>= fun _ => seqL f L

/-- The 28 blocks of the contraction dimension, in order. -/
def ks : List (Fin 28) := [⟨0, by decide⟩, ⟨1, by decide⟩, ⟨2, by decide⟩, ⟨3, by decide⟩, ⟨4, by decide⟩, ⟨5, by decide⟩, ⟨6, by decide⟩, ⟨7, by decide⟩, ⟨8, by decide⟩, ⟨9, by decide⟩, ⟨10, by decide⟩, ⟨11, by decide⟩, ⟨12, by decide⟩, ⟨13, by decide⟩, ⟨14, by decide⟩, ⟨15, by decide⟩, ⟨16, by decide⟩, ⟨17, by decide⟩, ⟨18, by decide⟩, ⟨19, by decide⟩, ⟨20, by decide⟩, ⟨21, by decide⟩, ⟨22, by decide⟩, ⟨23, by decide⟩, ⟨24, by decide⟩, ⟨25, by decide⟩, ⟨26, by decide⟩, ⟨27, by decide⟩]

/-- A block's largest magnitude per row over 448, 128 rows. -/
def amx128 (v56 : FVec F S128x128 .f32) : FVec F S128x1 .f32 :=
  have v57 : FVec F S128x128 .f32 := absf v56
  have v58 : FVec F S128 .f32 := multiReduction .maximumf [1] S128 v57 0xFF800000#32 reduces_S128x128_S128 (.inl rfl) rfl
  have v59 : FVec F S128x1 .f32 := shapeCast S128x1 v58 shapeCasts_S128_S128x1
  have v60 : FVec F S128x1 .f32 := broadcast S128x1 (Scalar.ofBits .f32 0x3B124925#32)
  mulf v59 v60

/-- The exponent fields the quantiser picks from, one per lane. -/
def lanes128 : IVec S128x256 32 :=
  have v62 : IVec S128x256 32 := iota .tc S128x256 32 [1] iota_S128x256_d1_w32
  have v63 : IVec S128x256 32 := broadcast S128x256 253#32
  have v64 : IVec S128x256 1 := cmpi .slt v62 v63
  have v65 : IVec S128x256 32 := broadcast S128x256 255#32
  have v66 : IVec S128x256 32 := select v64 v62 v65
  have v67 : IVec S128x256 32 := broadcast S128x256 23#32
  shli v66 v67

/-- The largest exponent field a value reaches, per row. -/
def expo128 (v61 : FVec F S128x1 .f32) : IVec S128x1 32 :=
  have v69 : FVec F S128x256 .f32 := bitcastToFloat .f32 lanes128
  have v70 : FVec F S128x256 .f32 := broadcastTo S128x256 v61 broadcasts_S128x1_S128x256
  have v71 : IVec S128x256 1 := cmpf .olt v70 v69
  have v72 : IVec S128x256 32 := broadcast S128x256 0#32
  have v73 : IVec S128x256 32 := select v71 v72 lanes128
  have v74 : IVec S128 32 := multiReductionI .maxsi [1] S128 v73 2147483648#32 reduces_S128x256_S128 rfl
  shapeCast S128x1 v74 shapeCasts_S128_S128x1

/-- The scale of an exponent field: twice its power of two, one when it is zero. -/
def scl128 (v75 : IVec S128x1 32) : FVec F S128x1 .f32 :=
  have v77 : IVec S128x1 32 := addi v75 (broadcast S128x1 8388608#32)
  have v78 : FVec F S128x1 .f32 := bitcastToFloat .f32 v77
  have v82 : FVec F S128x1 .f32 := broadcast S128x1 (Scalar.ofBits .f32 0x3F800000#32)
  have v84 : IVec S128x1 1 := cmpi .eq v75 (broadcast S128x1 0#32)
  select v84 v82 v78

/-- The inverse of the scale of an exponent field. -/
def inv128 (v75 : IVec S128x1 32) : FVec F S128x1 .f32 :=
  have v80 : IVec S128x1 32 := subi (broadcast S128x1 2122317824#32) v75
  have v81 : FVec F S128x1 .f32 := bitcastToFloat .f32 v80
  have v82 : FVec F S128x1 .f32 := broadcast S128x1 (Scalar.ofBits .f32 0x3F800000#32)
  have v87 : IVec S128x1 1 := cmpi .eq v75 (broadcast S128x1 0#32)
  select v87 v82 v81

/-- A block's fp8 codes, 128 rows. -/
def cod128 (v56 : FVec F S128x128 .f32) : FVec F S128x128 .fp8e4m3 :=
  have v89 : FVec F S128x128 .f32 := broadcastTo S128x128 (inv128 (expo128 (amx128 v56))) broadcasts_S128x1_S128x128
  have v90 : FVec F S128x128 .f32 := mulf v56 v89
  have v91 : FVec F S128x128 .f32 := broadcast S128x128 (Scalar.ofBits .f32 0xC3E00000#32)
  have v92 : FVec F S128x128 .f32 := maximumf v91 v90
  have v93 : FVec F S128x128 .f32 := broadcast S128x128 (Scalar.ofBits .f32 0x43E00000#32)
  have v94 : FVec F S128x128 .f32 := minimumf v93 v92
  truncf .fp8e4m3 v94 bitsLt_fp8e4m3_f32

/-- An activation block quantised and read back at its scale, 128 rows. -/
def xpay128 (v54 : Vec F S1x128x128 .bf16) : FVec F S128x128 .bf16 :=
  have v55 : FVec F S128x128 .bf16 := shapeCast S128x128 v54 shapeCasts_S1x128x128_S128x128
  have v56 : FVec F S128x128 .f32 := extf .f32 v55 bitsLt_bf16_f32
  have v96 : FVec F S128x128 .bf16 := extf .bf16 (cod128 v56) bitsLt_fp8e4m3_bf16
  have v97 : FVec F S128x1 .bf16 := truncf .bf16 (scl128 (expo128 (amx128 v56))) bitsLt_bf16_f32
  have v98 : FVec F S128x128 .bf16 := broadcastTo S128x128 v97 broadcasts_S128x1_S128x128
  have v99 : FVec F S128x128 .bf16 := mulf v96 v98
  shapeCast S128x128 v99 shapeCasts_S128x128_S128x128

/-- A chunk of hidden rows from the quantised activations and weights: 128 rows from row `r0`, zero from row `v1` on. -/
def hid128 (r0 v1 : BitVec 32) (v34 : Vec F S128x3584 .bf16) (v35 : Vec F S256x3584 .bf16) : FVec F S128x128 .f32 :=
  have cst_20 : FVec F S128x256 .f32 := constant S128x256 .f32 0x00000000#32
  have v36 : FVec F S128x256 .f32 := matmul dot_S128x3584_S256x3584_S128x256_1_1_0_0_n_n none v34 v35 cst_20
  have v37 : FVec F S128x128 .f32 := extractStridedSlice S128x128 ![0, 0] v36 slices_S128x256_o0_0_S128x128
  have v38 : FVec F S128x128 .f32 := extractStridedSlice S128x128 ![0, 128] v36 slices_S128x256_o0_128_S128x128
  have v39 : IVec S128x128 32 := iota .tc S128x128 32 [0] iota_S128x128_d0_w32
  have v40 : IVec S128x128 32 := broadcast S128x128 r0
  have v41 : IVec S128x128 32 := addi v40 v39
  have v42 : IVec S128x128 32 := broadcast S128x128 v1
  have v43 : IVec S128x128 1 := cmpi .slt v41 v42
  have v44 : FVec F S128x128 .f32 := logistic v37
  have v45 : FVec F S128x128 .f32 := mulf v37 v44
  have v46 : FVec F S128x128 .f32 := mulf v45 v38
  have v47 : FVec F S128x128 .f32 := broadcast S128x128 (Scalar.ofBits .f32 0x00000000#32)
  select v43 v46 v47

/-- The codes a hidden chunk stores. -/
def hcod128 (r0 v1 : BitVec 32) (v34 : Vec F S128x3584 .bf16) (v35 : Vec F S256x3584 .bf16) : FVec F S128x128 .fp8e4m3 :=
  shapeCast S128x128 (cod128 (hid128 r0 v1 v34 v35)) shapeCasts_S128x128_S128x128

/-- The scales a hidden chunk stores: the one of the chunk's rows in the point's lane, the others as they were. -/
def hscl128 (arg1 r0 v1 : BitVec 32) (v34 : Vec F S128x3584 .bf16) (v35 : Vec F S256x3584 .bf16) (v92 : Vec F S1x128x17 .f32) :
    FVec F S1x128x17 .f32 :=
  have v77 : FVec F S128x1 .f32 := scl128 (expo128 (amx128 (hid128 r0 v1 v34 v35)))
  have v91 : IVec S128x17 32 := iota .tc S128x17 32 [1] iota_S128x17_d1_w32
  have v93 : FVec F S128x17 .f32 := shapeCast S128x17 v92 shapeCasts_S1x128x17_S128x17
  have v94 : IVec S128x17 32 := broadcast S128x17 arg1
  have v95 : IVec S128x17 1 := cmpi .eq v91 v94
  have v96 : FVec F S128x1 .f32 := shapeCast S128x1 (v77) shapeCasts_S128x1_S128x1
  have v97 : FVec F S128x17 .f32 := broadcastTo S128x17 v96 broadcasts_S128x1_S128x17
  have v98 : FVec F S128x17 .f32 := select v95 v97 v93
  shapeCast S1x128x17 v98 shapeCasts_S128x17_S1x128x17

/-- A block's largest magnitude per row over 448, 43 rows. -/
def amx43 (v56 : FVec F S43x128 .f32) : FVec F S43x1 .f32 :=
  have v57 : FVec F S43x128 .f32 := absf v56
  have v58 : FVec F S43 .f32 := multiReduction .maximumf [1] S43 v57 0xFF800000#32 reduces_S43x128_S43 (.inl rfl) rfl
  have v59 : FVec F S43x1 .f32 := shapeCast S43x1 v58 shapeCasts_S43_S43x1
  have v60 : FVec F S43x1 .f32 := broadcast S43x1 (Scalar.ofBits .f32 0x3B124925#32)
  mulf v59 v60

/-- The exponent fields the quantiser picks from, one per lane. -/
def lanes43 : IVec S43x256 32 :=
  have v62 : IVec S43x256 32 := iota .tc S43x256 32 [1] iota_S43x256_d1_w32
  have v63 : IVec S43x256 32 := broadcast S43x256 253#32
  have v64 : IVec S43x256 1 := cmpi .slt v62 v63
  have v65 : IVec S43x256 32 := broadcast S43x256 255#32
  have v66 : IVec S43x256 32 := select v64 v62 v65
  have v67 : IVec S43x256 32 := broadcast S43x256 23#32
  shli v66 v67

/-- The largest exponent field a value reaches, per row. -/
def expo43 (v61 : FVec F S43x1 .f32) : IVec S43x1 32 :=
  have v69 : FVec F S43x256 .f32 := bitcastToFloat .f32 lanes43
  have v70 : FVec F S43x256 .f32 := broadcastTo S43x256 v61 broadcasts_S43x1_S43x256
  have v71 : IVec S43x256 1 := cmpf .olt v70 v69
  have v72 : IVec S43x256 32 := broadcast S43x256 0#32
  have v73 : IVec S43x256 32 := select v71 v72 lanes43
  have v74 : IVec S43 32 := multiReductionI .maxsi [1] S43 v73 2147483648#32 reduces_S43x256_S43 rfl
  shapeCast S43x1 v74 shapeCasts_S43_S43x1

/-- The scale of an exponent field: twice its power of two, one when it is zero. -/
def scl43 (v75 : IVec S43x1 32) : FVec F S43x1 .f32 :=
  have v77 : IVec S43x1 32 := addi v75 (broadcast S43x1 8388608#32)
  have v78 : FVec F S43x1 .f32 := bitcastToFloat .f32 v77
  have v82 : FVec F S43x1 .f32 := broadcast S43x1 (Scalar.ofBits .f32 0x3F800000#32)
  have v84 : IVec S43x1 1 := cmpi .eq v75 (broadcast S43x1 0#32)
  select v84 v82 v78

/-- The inverse of the scale of an exponent field. -/
def inv43 (v75 : IVec S43x1 32) : FVec F S43x1 .f32 :=
  have v80 : IVec S43x1 32 := subi (broadcast S43x1 2122317824#32) v75
  have v81 : FVec F S43x1 .f32 := bitcastToFloat .f32 v80
  have v82 : FVec F S43x1 .f32 := broadcast S43x1 (Scalar.ofBits .f32 0x3F800000#32)
  have v87 : IVec S43x1 1 := cmpi .eq v75 (broadcast S43x1 0#32)
  select v87 v82 v81

/-- A block's fp8 codes, 43 rows. -/
def cod43 (v56 : FVec F S43x128 .f32) : FVec F S43x128 .fp8e4m3 :=
  have v89 : FVec F S43x128 .f32 := broadcastTo S43x128 (inv43 (expo43 (amx43 v56))) broadcasts_S43x1_S43x128
  have v90 : FVec F S43x128 .f32 := mulf v56 v89
  have v91 : FVec F S43x128 .f32 := broadcast S43x128 (Scalar.ofBits .f32 0xC3E00000#32)
  have v92 : FVec F S43x128 .f32 := maximumf v91 v90
  have v93 : FVec F S43x128 .f32 := broadcast S43x128 (Scalar.ofBits .f32 0x43E00000#32)
  have v94 : FVec F S43x128 .f32 := minimumf v93 v92
  truncf .fp8e4m3 v94 bitsLt_fp8e4m3_f32

/-- An activation block quantised and read back at its scale, 43 rows. -/
def xpay43 (v54 : Vec F S1x43x128 .bf16) : FVec F S43x128 .bf16 :=
  have v55 : FVec F S43x128 .bf16 := shapeCast S43x128 v54 shapeCasts_S1x43x128_S43x128
  have v56 : FVec F S43x128 .f32 := extf .f32 v55 bitsLt_bf16_f32
  have v96 : FVec F S43x128 .bf16 := extf .bf16 (cod43 v56) bitsLt_fp8e4m3_bf16
  have v97 : FVec F S43x1 .bf16 := truncf .bf16 (scl43 (expo43 (amx43 v56))) bitsLt_bf16_f32
  have v98 : FVec F S43x128 .bf16 := broadcastTo S43x128 v97 broadcasts_S43x1_S43x128
  have v99 : FVec F S43x128 .bf16 := mulf v96 v98
  shapeCast S43x128 v99 shapeCasts_S43x128_S43x128

/-- A block's largest magnitude per row over 448, 64 rows. -/
def amx64 (v56 : FVec F S64x128 .f32) : FVec F S64x1 .f32 :=
  have v57 : FVec F S64x128 .f32 := absf v56
  have v58 : FVec F S64 .f32 := multiReduction .maximumf [1] S64 v57 0xFF800000#32 reduces_S64x128_S64 (.inl rfl) rfl
  have v59 : FVec F S64x1 .f32 := shapeCast S64x1 v58 shapeCasts_S64_S64x1
  have v60 : FVec F S64x1 .f32 := broadcast S64x1 (Scalar.ofBits .f32 0x3B124925#32)
  mulf v59 v60

/-- The exponent fields the quantiser picks from, one per lane. -/
def lanes64 : IVec S64x256 32 :=
  have v62 : IVec S64x256 32 := iota .tc S64x256 32 [1] iota_S64x256_d1_w32
  have v63 : IVec S64x256 32 := broadcast S64x256 253#32
  have v64 : IVec S64x256 1 := cmpi .slt v62 v63
  have v65 : IVec S64x256 32 := broadcast S64x256 255#32
  have v66 : IVec S64x256 32 := select v64 v62 v65
  have v67 : IVec S64x256 32 := broadcast S64x256 23#32
  shli v66 v67

/-- The largest exponent field a value reaches, per row. -/
def expo64 (v61 : FVec F S64x1 .f32) : IVec S64x1 32 :=
  have v69 : FVec F S64x256 .f32 := bitcastToFloat .f32 lanes64
  have v70 : FVec F S64x256 .f32 := broadcastTo S64x256 v61 broadcasts_S64x1_S64x256
  have v71 : IVec S64x256 1 := cmpf .olt v70 v69
  have v72 : IVec S64x256 32 := broadcast S64x256 0#32
  have v73 : IVec S64x256 32 := select v71 v72 lanes64
  have v74 : IVec S64 32 := multiReductionI .maxsi [1] S64 v73 2147483648#32 reduces_S64x256_S64 rfl
  shapeCast S64x1 v74 shapeCasts_S64_S64x1

/-- The scale of an exponent field: twice its power of two, one when it is zero. -/
def scl64 (v75 : IVec S64x1 32) : FVec F S64x1 .f32 :=
  have v77 : IVec S64x1 32 := addi v75 (broadcast S64x1 8388608#32)
  have v78 : FVec F S64x1 .f32 := bitcastToFloat .f32 v77
  have v82 : FVec F S64x1 .f32 := broadcast S64x1 (Scalar.ofBits .f32 0x3F800000#32)
  have v84 : IVec S64x1 1 := cmpi .eq v75 (broadcast S64x1 0#32)
  select v84 v82 v78

/-- The inverse of the scale of an exponent field. -/
def inv64 (v75 : IVec S64x1 32) : FVec F S64x1 .f32 :=
  have v80 : IVec S64x1 32 := subi (broadcast S64x1 2122317824#32) v75
  have v81 : FVec F S64x1 .f32 := bitcastToFloat .f32 v80
  have v82 : FVec F S64x1 .f32 := broadcast S64x1 (Scalar.ofBits .f32 0x3F800000#32)
  have v87 : IVec S64x1 1 := cmpi .eq v75 (broadcast S64x1 0#32)
  select v87 v82 v81

/-- A block's fp8 codes, 64 rows. -/
def cod64 (v56 : FVec F S64x128 .f32) : FVec F S64x128 .fp8e4m3 :=
  have v89 : FVec F S64x128 .f32 := broadcastTo S64x128 (inv64 (expo64 (amx64 v56))) broadcasts_S64x1_S64x128
  have v90 : FVec F S64x128 .f32 := mulf v56 v89
  have v91 : FVec F S64x128 .f32 := broadcast S64x128 (Scalar.ofBits .f32 0xC3E00000#32)
  have v92 : FVec F S64x128 .f32 := maximumf v91 v90
  have v93 : FVec F S64x128 .f32 := broadcast S64x128 (Scalar.ofBits .f32 0x43E00000#32)
  have v94 : FVec F S64x128 .f32 := minimumf v93 v92
  truncf .fp8e4m3 v94 bitsLt_fp8e4m3_f32

/-- A chunk of hidden rows from the quantised activations and weights: 64 rows from row `r0`, zero from row `v1` on. -/
def hid64 (r0 v1 : BitVec 32) (v34 : Vec F S64x3584 .bf16) (v35 : Vec F S256x3584 .bf16) : FVec F S64x128 .f32 :=
  have cst_20 : FVec F S64x256 .f32 := constant S64x256 .f32 0x00000000#32
  have v36 : FVec F S64x256 .f32 := matmul dot_S64x3584_S256x3584_S64x256_1_1_0_0_n_n none v34 v35 cst_20
  have v37 : FVec F S64x128 .f32 := extractStridedSlice S64x128 ![0, 0] v36 slices_S64x256_o0_0_S64x128
  have v38 : FVec F S64x128 .f32 := extractStridedSlice S64x128 ![0, 128] v36 slices_S64x256_o0_128_S64x128
  have v39 : IVec S64x128 32 := iota .tc S64x128 32 [0] iota_S64x128_d0_w32
  have v40 : IVec S64x128 32 := broadcast S64x128 r0
  have v41 : IVec S64x128 32 := addi v40 v39
  have v42 : IVec S64x128 32 := broadcast S64x128 v1
  have v43 : IVec S64x128 1 := cmpi .slt v41 v42
  have v44 : FVec F S64x128 .f32 := logistic v37
  have v45 : FVec F S64x128 .f32 := mulf v37 v44
  have v46 : FVec F S64x128 .f32 := mulf v45 v38
  have v47 : FVec F S64x128 .f32 := broadcast S64x128 (Scalar.ofBits .f32 0x00000000#32)
  select v43 v46 v47

/-- The codes a hidden chunk stores. -/
def hcod64 (r0 v1 : BitVec 32) (v34 : Vec F S64x3584 .bf16) (v35 : Vec F S256x3584 .bf16) : FVec F S64x128 .fp8e4m3 :=
  shapeCast S64x128 (cod64 (hid64 r0 v1 v34 v35)) shapeCasts_S64x128_S64x128

/-- The scales a hidden chunk stores: the one of the chunk's rows in the point's lane, the others as they were. -/
def hscl64 (arg1 r0 v1 : BitVec 32) (v34 : Vec F S64x3584 .bf16) (v35 : Vec F S256x3584 .bf16) (v92 : Vec F S1x43x17 .f32) :
    FVec F S1x43x17 .f32 :=
  have v77 : FVec F S64x1 .f32 := scl64 (expo64 (amx64 (hid64 r0 v1 v34 v35)))
  have v91 : IVec S43x17 32 := iota .tc S43x17 32 [1] iota_S43x17_d1_w32
  have v93 : FVec F S43x17 .f32 := shapeCast S43x17 v92 shapeCasts_S1x43x17_S43x17
  have v94 : IVec S43x17 32 := broadcast S43x17 arg1
  have v95 : IVec S43x17 1 := cmpi .eq v91 v94
  have v96 : FVec F S43x1 .f32 := shapeCast S43x1 (extractStridedSlice S43x1 ![0, 0] v77 slices_S64x1_o0_0_S43x1) shapeCasts_S43x1_S43x1
  have v97 : FVec F S43x17 .f32 := broadcastTo S43x17 v96 broadcasts_S43x1_S43x17
  have v98 : FVec F S43x17 .f32 := select v95 v97 v93
  shapeCast S1x43x17 v98 shapeCasts_S43x17_S1x43x17

/-- A weight block at its scale. -/
def wpay (v640 : Elt F .f32) (v642 : Vec F S1x1x128x128 .fp8e4m3) : FVec F S128x128 .bf16 :=
  have v641 : F .bf16 := Scalar.truncf .bf16 bitsLt_bf16_f32 v640
  have v643 : FVec F S128x128 .fp8e4m3 := shapeCast S128x128 v642 shapeCasts_S1x1x128x128_S128x128
  have v644 : FVec F S128x128 .bf16 := extf .bf16 v643 bitsLt_fp8e4m3_bf16
  have v645 : FVec F S128x128 .bf16 := broadcast S128x128 v641
  have v646 : FVec F S128x128 .bf16 := mulf v644 v645
  shapeCast S128x128 v646 shapeCasts_S128x128_S128x128

/-- The rectangle of 128 token rows and 128 lanes stays within the token block. -/
theorem rX128_inb (r0 : Nat) (hr : r0 + 128 ≤ 683) (j : Fin 28) : ∀ a, (![0, r0, 128 * j.val] : Fin _ → Nat) a + S1x128x128.size a ≤ S1x683x3584.size a := by
  intro a; fin_cases a <;> simp [S1x683x3584, S1x128x128] <;> omega
/-- A block of the activations. -/
abbrev rX128 (r0 : Nat) (hr : r0 + 128 ≤ 683) (j : Fin 28) : Rect S1x683x3584 := Rect.unit (s := S1x683x3584) ![0, r0, 128 * j.val] S1x128x128.size (rX128_inb r0 hr j)

/-- The rectangle of 43 token rows and 128 lanes stays within the token block. -/
theorem rX43_inb (j : Fin 28) : ∀ a, (![0, 640, 128 * j.val] : Fin _ → Nat) a + S1x43x128.size a ≤ S1x683x3584.size a := by
  intro a; fin_cases a <;> simp [S1x683x3584, S1x43x128] <;> omega
/-- A block of the last activation rows. -/
abbrev rX43 (j : Fin 28) : Rect S1x683x3584 := Rect.unit (s := S1x683x3584) ![0, 640, 128 * j.val] S1x43x128.size (rX43_inb j)

/-- The rectangle of 128 rows and 128 lanes stays within the quantised rows' buffer. -/
theorem rQ128_inb (r0 : Nat) (hr : r0 + 128 ≤ 683) (j : Fin 28) : ∀ a, (![r0, 128 * j.val] : Fin _ → Nat) a + S128x128.size a ≤ S704x3584.size a := by
  intro a; fin_cases a <;> simp [S704x3584, S128x128] <;> omega
/-- A block of the quantised activations. -/
abbrev rQ128 (r0 : Nat) (hr : r0 + 128 ≤ 683) (j : Fin 28) : Rect S704x3584 := Rect.unit (s := S704x3584) ![r0, 128 * j.val] S128x128.size (rQ128_inb r0 hr j)

/-- The rectangle of 43 rows and 128 lanes stays within the quantised rows' buffer. -/
theorem rQ43_inb (j : Fin 28) : ∀ a, (![640, 128 * j.val] : Fin _ → Nat) a + S43x128.size a ≤ S704x3584.size a := by
  intro a; fin_cases a <;> simp [S704x3584, S43x128] <;> omega
/-- A block of the last quantised rows. -/
abbrev rQ43 (j : Fin 28) : Rect S704x3584 := Rect.unit (s := S704x3584) ![640, 128 * j.val] S43x128.size (rQ43_inb j)

/-- The rectangle of 44 rows and 128 lanes stays within the quantised rows' buffer. -/
theorem rQ44_inb (j : Fin 28) : ∀ a, (![640, 128 * j.val] : Fin _ → Nat) a + S44x128.size a ≤ S704x3584.size a := by
  intro a; fin_cases a <;> simp [S704x3584, S44x128] <;> omega
/-- A block of the last quantised rows, in whole words. -/
abbrev rQ44 (j : Fin 28) : Rect S704x3584 := Rect.unit (s := S704x3584) ![640, 128 * j.val] S44x128.size (rQ44_inb j)

/-- The rectangle of one 128 × 128 weight block stays within the weights' block. -/
theorem rW_inb (g : Fin 2) (j : Fin 28) : ∀ a, (![0, g.val, 0, 128 * j.val] : Fin _ → Nat) a + S1x1x128x128.size a ≤ S1x2x128x3584.size a := by
  intro a; fin_cases a <;> simp [S1x2x128x3584, S1x1x128x128] <;> omega
/-- A block of the weights. -/
abbrev rW (g : Fin 2) (j : Fin 28) : Rect S1x2x128x3584 := Rect.unit (s := S1x2x128x3584) ![0, g.val, 0, 128 * j.val] S1x1x128x128.size (rW_inb g j)

/-- The rectangle of one 128 × 128 block stays within the scaled weights' buffer. -/
theorem rWQ_inb (g : Fin 2) (j : Fin 28) : ∀ a, (![128 * g.val, 128 * j.val] : Fin _ → Nat) a + S128x128.size a ≤ S256x3584.size a := by
  intro a; fin_cases a <;> simp [S256x3584, S128x128] <;> omega
/-- A block of the scaled weights. -/
abbrev rWQ (g : Fin 2) (j : Fin 28) : Rect S256x3584 := Rect.unit (s := S256x3584) ![128 * g.val, 128 * j.val] S128x128.size (rWQ_inb g j)

/-- The rectangle of 128 whole rows stays within the quantised rows' buffer. -/
theorem rQrow128_inb (r0 : Nat) (hr : r0 + 128 ≤ 683) : ∀ a, (![r0, 0] : Fin _ → Nat) a + S128x3584.size a ≤ S704x3584.size a := by
  intro a; fin_cases a <;> simp [S704x3584, S128x3584] <;> omega
/-- A chunk of the quantised rows. -/
abbrev rQrow128 (r0 : Nat) (hr : r0 + 128 ≤ 683) : Rect S704x3584 := Rect.unit (s := S704x3584) ![r0, 0] S128x3584.size (rQrow128_inb r0 hr)

/-- The rectangle of 128 rows stays within the hidden codes' buffer. -/
theorem rH128_inb (r0 : Nat) (hr : r0 + 128 ≤ 683) : ∀ a, (![r0, 0] : Fin _ → Nat) a + S128x128.size a ≤ S704x128.size a := by
  intro a; fin_cases a <;> simp [S704x128, S128x128] <;> omega
/-- A chunk of the hidden codes. -/
abbrev rH128 (r0 : Nat) (hr : r0 + 128 ≤ 683) : Rect S704x128 := Rect.unit (s := S704x128) ![r0, 0] S128x128.size (rH128_inb r0 hr)

/-- The rectangle of 128 rows stays within the scales' block. -/
theorem rS128_inb (r0 : Nat) (hr : r0 + 128 ≤ 683) : ∀ a, (![0, r0, 0] : Fin _ → Nat) a + S1x128x17.size a ≤ S1x683x17.size a := by
  intro a; fin_cases a <;> simp [S1x683x17, S1x128x17] <;> omega
/-- A chunk of the scales. -/
abbrev rS128 (r0 : Nat) (hr : r0 + 128 ≤ 683) : Rect S1x683x17 := Rect.unit (s := S1x683x17) ![0, r0, 0] S1x128x17.size (rS128_inb r0 hr)

/-- The point's lane, as the kernel computes it. -/
def lane (i : grid0.Coords) : BitVec 32 := BitVec.ofNat 32 (i 1).val

/-- The lane a point writes, as an index, is the point's second coordinate. -/
theorem lane_toNat (i : grid0.Coords) : (Scalar.indexCast (lane i)).toNat = (i 1).val := by
  have h : (i 1).val < 17 := (i 1).isLt
  simp only [lane, Scalar.indexCast]
  rw [BitVec.toNat_ofNat]; exact Nat.mod_eq_of_lt (by omega)

/-- The one-entry rectangle of a weight block's scale stays within the scales of the weights. -/
theorem rWS_inb (i : grid0.Coords) (g : Fin 2) (j : Fin 28) :
    ∀ a, (![0, g.val, (Scalar.indexCast (lane i)).toNat, j.val] : Fin _ → Nat) a + S1x1x1x1.size a ≤ S1x2x17x28.size a := by
  have h : (i 1).val < 17 := (i 1).isLt
  rw [lane_toNat]
  intro a; fin_cases a <;> simp [S1x2x17x28, S1x1x1x1] <;> omega
/-- A weight block's scale. -/
abbrev rWS (i : grid0.Coords) (g : Fin 2) (j : Fin 28) : Rect S1x2x17x28 :=
  Rect.unit (s := S1x2x17x28) ![0, g.val, (Scalar.indexCast (lane i)).toNat, j.val] S1x1x1x1.size (rWS_inb i g j)

/-- A store of 128 quantised rows starts on a packed row. -/
theorem pQ128 (r0 : Nat) (hr : r0 + 128 ≤ 683) (hp : 8 ∣ r0) (j : Fin 28) : (rQ128 r0 hr j).PackedRows (EltTy.packing .bf16) :=
  .inr ⟨Nat.le_refl 2, rfl, .inl ⟨show (2 : Nat) ∣ r0 from Dvd.dvd.trans (show (2 : Nat) ∣ 8 by decide) hp, show (2 : Nat) ∣ 128 by decide⟩⟩
/-- A store of the last 44 quantised rows starts on a packed row. -/
theorem pQ44 (j : Fin 28) : (rQ44 j).PackedRows (EltTy.packing .bf16) :=
  .inr ⟨Nat.le_refl 2, rfl, .inl ⟨show (2 : Nat) ∣ 640 by decide, show (2 : Nat) ∣ 44 by decide⟩⟩
/-- A store of a scaled weight block starts on a packed row. -/
theorem pWQ (g : Fin 2) (j : Fin 28) : (rWQ g j).PackedRows (EltTy.packing .bf16) :=
  .inr ⟨Nat.le_refl 2, rfl, .inl ⟨show (2 : Nat) ∣ 128 * g.val from Dvd.dvd.mul_right (by decide) _, show (2 : Nat) ∣ 128 by decide⟩⟩
/-- A store of 128 rows of hidden codes starts on a packed row. -/
theorem pH128 (r0 : Nat) (hr : r0 + 128 ≤ 683) (hp : 8 ∣ r0) : (rH128 r0 hr).PackedRows (EltTy.packing .fp8e4m3) :=
  .inr ⟨Nat.le_refl 2, rfl, .inl ⟨show (4 : Nat) ∣ r0 from Dvd.dvd.trans (show (4 : Nat) ∣ 8 by decide) hp, show (4 : Nat) ∣ 128 by decide⟩⟩

/-- The branch condition "`v1` exceeds `r`", as the kernel computes it. -/
def cnd (v1 r : BitVec 32) : BitVec 1 := Scalar.cmpi .ne (Scalar.extui (Scalar.cmpi .sgt v1 r) : BitVec 32) 0#32

section
variable (i : grid0.Coords) (arg2 : Memref sig .tc .smem S24 .i32) (harg2 : arg2.IsWhole) (arg3 : Memref sig .tc .vmem S1x683x3584 .bf16) (harg3 : arg3.IsWhole) (arg4 : Memref sig .tc .vmem S1x2x128x3584 .fp8e4m3) (harg4 : arg4.IsWhole) (arg5 : Memref sig .tc .smem S1x2x17x28 .f32) (harg5 : arg5.IsWhole) (arg6 : Memref sig .tc .vmem S1x683x128 .fp8e4m3) (harg6 : arg6.IsWhole) (arg7 : Memref sig .tc .vmem S1x683x17 .f32) (harg7 : arg7.IsWhole) (arg8 : Memref sig .tc .vmem S704x3584 .bf16) (harg8 : arg8.IsWhole) (arg9 : Memref sig .tc .vmem S256x3584 .bf16) (harg9 : arg9.IsWhole) (arg10 : Memref sig .tc .vmem S704x128 .fp8e4m3) (harg10 : arg10.IsWhole)

/-- One activation block: loaded, quantised, stored. -/
def xBlk128 (r0 : Nat) (hr : r0 + 128 ≤ 683) (hp : 8 ∣ r0) (j : Fin 28) : KProg F PUnit := do
  let v54 : Vec F S1x128x128 .bf16 ← Prog.lift (.load arg3 (rX128 r0 hr j).toLoadRect (View.loadsAt_vmem h_S1x128x128))
  let v100 : Vec F S128x128 .bf16 ← Prog.lift (.load arg8 (rQ128 r0 hr j).toLoadRect (View.loadsAt_vmem h_S128x128))
  Prog.lift (.store arg8 (rQ128 r0 hr j) (xpay128 v54) Finset.univ (View.stores_vmem h_S128x128 (harg8.storeExact_slice rfl _ (pQ128 r0 hr hp j)) (fun _ => rfl)) (.inl rfl))

/-- One activation block of the last rows. -/
def xBlk43 (j : Fin 28) : KProg F PUnit := do
  let v54 : Vec F S1x43x128 .bf16 ← Prog.lift (.load arg3 (rX43 j).toLoadRect (View.loadsAt_vmem h_S1x43x128))
  let v100 : Vec F S43x128 .bf16 ← Prog.lift (.load arg8 (rQ43 j).toLoadRect (View.loadsAt_vmem h_S43x128))
  let old : Vec F S44x128 .bf16 ← Prog.lift (.load arg8 (rQ44 j).toLoadRect (View.loadsAt_vmem h_S44x128))
  Prog.lift (.store arg8 (rQ44 j) (updateSlice old (xpay43 v54) ![0, 0] slices_S44x128_S43x128_0_0) Finset.univ (View.stores_vmem h_S44x128 (harg8.storeExact_slice rfl _ (pQ44 j)) (fun _ => rfl)) (.inl rfl))

/-- One weight block: its scale and codes loaded, the product stored. -/
def wBlk (gj : Fin 2 × Fin 28) : KProg F PUnit := do
  let v640 : Elt F .f32 ← smemLoad arg5 (rWS i gj.1 gj.2) numel1_S1x1x1x1 rfl
  let v642 : Vec F S1x1x128x128 .fp8e4m3 ← Prog.lift (.load arg4 (rW gj.1 gj.2).toLoadRect (View.loadsAt_vmem h_S1x1x128x128))
  let v647 : Vec F S128x128 .bf16 ← Prog.lift (.load arg9 (rWQ gj.1 gj.2).toLoadRect (View.loadsAt_vmem h_S128x128))
  Prog.lift (.store arg9 (rWQ gj.1 gj.2) (wpay v640 v642) Finset.univ (View.stores_vmem h_S128x128 (harg9.storeExact_slice rfl _ (pWQ gj.1 gj.2)) (fun _ => rfl)) (.inl rfl))

/-- One chunk of hidden rows: computed, quantised, its codes and scales stored. -/
def hBlk128 (v1 : BitVec 32) (r0 : Nat) (hr : r0 + 128 ≤ 683) (hp : 8 ∣ r0) : KProg F PUnit := do
  let v34 : Vec F S128x3584 .bf16 ← Prog.lift (.load arg8 (rQrow128 r0 hr).toLoadRect (View.loadsAt_vmem h_S128x3584))
  let v35 : Vec F S256x3584 .bf16 ← Prog.lift (.load arg9 (Rect.unit (s := S256x3584) ![0, 0] S256x3584.size inb_S256x3584_S256x3584_0_0).toLoadRect (View.loadsAt_vmem h_S256x3584))
  let v88 : Vec F S128x128 .fp8e4m3 ← Prog.lift (.load arg10 (rH128 r0 hr).toLoadRect (View.loadsAt_vmem h_S128x128))
  Prog.lift (.store arg10 (rH128 r0 hr) (hcod128 (BitVec.ofNat 32 r0) v1 v34 v35) Finset.univ (View.stores_vmem h_S128x128 (harg10.storeExact_slice rfl _ (pH128 r0 hr hp)) (fun _ => rfl)) (.inl rfl))
  let v92 : Vec F S1x128x17 .f32 ← Prog.lift (.load arg7 (rS128 r0 hr).toLoadRect (View.loadsAt_vmem h_S1x128x17))
  let v99 : Vec F S1x128x17 .f32 ← Prog.lift (.load arg7 (rS128 r0 hr).toLoadRect (View.loadsAt_vmem h_S1x128x17))
  Prog.lift (.store arg7 (rS128 r0 hr) (hscl128 (lane i) (BitVec.ofNat 32 r0) v1 v34 v35 v92) Finset.univ (View.stores_vmem_bits_univ h_S1x128x17 rfl) (.inl rfl))

/-- The last chunk of hidden rows. -/
def hBlk64 (v1 : BitVec 32) : KProg F PUnit := do
  let v34 : Vec F S64x3584 .bf16 ← Prog.lift (.load arg8 (Rect.unit (s := S704x3584) ![640, 0] S64x3584.size inb_S704x3584_S64x3584_640_0).toLoadRect (View.loadsAt_vmem h_S64x3584))
  let v35 : Vec F S256x3584 .bf16 ← Prog.lift (.load arg9 (Rect.unit (s := S256x3584) ![0, 0] S256x3584.size inb_S256x3584_S256x3584_0_0).toLoadRect (View.loadsAt_vmem h_S256x3584))
  let v88 : Vec F S64x128 .fp8e4m3 ← Prog.lift (.load arg10 (Rect.unit (s := S704x128) ![640, 0] S64x128.size inb_S704x128_S64x128_640_0).toLoadRect (View.loadsAt_vmem h_S64x128))
  Prog.lift (.store arg10 (Rect.unit (s := S704x128) ![640, 0] S64x128.size inb_S704x128_S64x128_640_0) (hcod64 640#32 v1 v34 v35) Finset.univ (View.stores_vmem h_S64x128 (harg10.storeExact_slice rfl _ packedfp8e4m3_S704x128_S64x128_640_0) (fun _ => rfl)) (.inl rfl))
  let v92 : Vec F S1x43x17 .f32 ← Prog.lift (.load arg7 (Rect.unit (s := S1x683x17) ![0, 640, 0] S1x43x17.size inb_S1x683x17_S1x43x17_0_640_0).toLoadRect (View.loadsAt_vmem h_S1x43x17))
  let v99 : Vec F S1x43x17 .f32 ← Prog.lift (.load arg7 (Rect.unit (s := S1x683x17) ![0, 640, 0] S1x43x17.size inb_S1x683x17_S1x43x17_0_640_0).toLoadRect (View.loadsAt_vmem h_S1x43x17))
  Prog.lift (.store arg7 (Rect.unit (s := S1x683x17) ![0, 640, 0] S1x43x17.size inb_S1x683x17_S1x43x17_0_640_0) (hscl64 (lane i) 640#32 v1 v34 v35 v92) Finset.univ (View.stores_vmem_bits_univ h_S1x43x17 rfl) (.inl rfl))

/-- The weight blocks, gate then up, in order. -/
def gks : List (Fin 2 × Fin 28) := ks.map (fun j => (⟨0, by decide⟩, j)) ++ ks.map (fun j => (⟨1, by decide⟩, j))

/-- The last chunk of hidden rows, where it is active. -/
def H5 (v1 : BitVec 32) : KProg F PUnit :=
  if k0_cond14 v1 = 1#1 then hBlk64 i arg7 arg8 arg9 arg10 harg10 v1 else pure ⟨⟩
/-- The chunks of hidden rows from row 512 on, those active. -/
def H4 (v1 : BitVec 32) : KProg F PUnit :=
  if k0_cond13 v1 = 1#1 then hBlk128 i arg7 arg8 arg9 arg10 harg10 v1 512 (by decide) (by decide) >>= fun _ => H5 i arg7 arg8 arg9 arg10 harg10 v1
  else H5 i arg7 arg8 arg9 arg10 harg10 v1
/-- The chunks of hidden rows from row 384 on, those active. -/
def H3 (v1 : BitVec 32) : KProg F PUnit :=
  if k0_cond12 v1 = 1#1 then hBlk128 i arg7 arg8 arg9 arg10 harg10 v1 384 (by decide) (by decide) >>= fun _ => H4 i arg7 arg8 arg9 arg10 harg10 v1
  else H4 i arg7 arg8 arg9 arg10 harg10 v1
/-- The chunks of hidden rows from row 256 on, those active. -/
def H2 (v1 : BitVec 32) : KProg F PUnit :=
  if k0_cond11 v1 = 1#1 then hBlk128 i arg7 arg8 arg9 arg10 harg10 v1 256 (by decide) (by decide) >>= fun _ => H3 i arg7 arg8 arg9 arg10 harg10 v1
  else H3 i arg7 arg8 arg9 arg10 harg10 v1
/-- The chunks of hidden rows from row 128 on, those active. -/
def H1 (v1 : BitVec 32) : KProg F PUnit :=
  if k0_cond10 v1 = 1#1 then hBlk128 i arg7 arg8 arg9 arg10 harg10 v1 128 (by decide) (by decide) >>= fun _ => H2 i arg7 arg8 arg9 arg10 harg10 v1
  else H2 i arg7 arg8 arg9 arg10 harg10 v1
/-- The chunks of hidden rows from row 0 on, those active. -/
def H0 (v1 : BitVec 32) : KProg F PUnit :=
  if k0_cond9 v1 = 1#1 then hBlk128 i arg7 arg8 arg9 arg10 harg10 v1 0 (by decide) (by decide) >>= fun _ => H1 i arg7 arg8 arg9 arg10 harg10 v1
  else H1 i arg7 arg8 arg9 arg10 harg10 v1
/-- The hidden codes cleared, the weights scaled, then the hidden rows. -/
def W0 (v1 : BitVec 32) : KProg F PUnit := do
  let v6 : Vec F S704x128 .fp8e4m3 ← Prog.lift (.load arg10 (Rect.unit (s := S704x128) ![0, 0] S704x128.size inb_S704x128_S704x128_0_0).toLoadRect (View.loadsAt_vmem h_S704x128))
  Prog.lift (.store arg10 (Rect.unit (s := S704x128) ![0, 0] S704x128.size inb_S704x128_S704x128_0_0) (shapeCast S704x128 (broadcast S704x128 (Scalar.ofBits .fp8e4m3 0x00#8 : F .fp8e4m3)) shapeCasts_S704x128_S704x128) Finset.univ (View.stores_vmem h_S704x128 (harg10.storeExact_slice rfl _ packedfp8e4m3_S704x128_S704x128_0_0) (fun _ => rfl)) (.inl rfl))
  if cnd v1 0#32 = 1#1 then seqL (wBlk i arg4 arg5 arg9 harg9) gks >>= fun _ => H0 i arg7 arg8 arg9 arg10 harg10 v1
  else H0 i arg7 arg8 arg9 arg10 harg10 v1

/-- The last activation rows quantised, where they are active, then the rest. -/
def X5 (v1 : BitVec 32) : KProg F PUnit :=
  if cnd v1 640#32 = 1#1 then seqL (xBlk43 arg3 arg8 harg8) ks >>= fun _ => W0 i arg4 arg5 arg7 arg8 arg9 harg9 arg10 harg10 v1
  else W0 i arg4 arg5 arg7 arg8 arg9 harg9 arg10 harg10 v1
/-- The activation rows from row 512 on quantised, chunk by chunk, those active, then the rest. -/
def X4 (v1 : BitVec 32) : KProg F PUnit :=
  if cnd v1 512#32 = 1#1 then seqL (xBlk128 arg3 arg8 harg8 512 (by decide) (by decide)) ks >>= fun _ => X5 i arg3 arg4 arg5 arg7 arg8 harg8 arg9 harg9 arg10 harg10 v1
  else X5 i arg3 arg4 arg5 arg7 arg8 harg8 arg9 harg9 arg10 harg10 v1
/-- The activation rows from row 384 on quantised, chunk by chunk, those active, then the rest. -/
def X3 (v1 : BitVec 32) : KProg F PUnit :=
  if cnd v1 384#32 = 1#1 then seqL (xBlk128 arg3 arg8 harg8 384 (by decide) (by decide)) ks >>= fun _ => X4 i arg3 arg4 arg5 arg7 arg8 harg8 arg9 harg9 arg10 harg10 v1
  else X4 i arg3 arg4 arg5 arg7 arg8 harg8 arg9 harg9 arg10 harg10 v1
/-- The activation rows from row 256 on quantised, chunk by chunk, those active, then the rest. -/
def X2 (v1 : BitVec 32) : KProg F PUnit :=
  if cnd v1 256#32 = 1#1 then seqL (xBlk128 arg3 arg8 harg8 256 (by decide) (by decide)) ks >>= fun _ => X3 i arg3 arg4 arg5 arg7 arg8 harg8 arg9 harg9 arg10 harg10 v1
  else X3 i arg3 arg4 arg5 arg7 arg8 harg8 arg9 harg9 arg10 harg10 v1
/-- The activation rows from row 128 on quantised, chunk by chunk, those active, then the rest. -/
def X1 (v1 : BitVec 32) : KProg F PUnit :=
  if cnd v1 128#32 = 1#1 then seqL (xBlk128 arg3 arg8 harg8 128 (by decide) (by decide)) ks >>= fun _ => X2 i arg3 arg4 arg5 arg7 arg8 harg8 arg9 harg9 arg10 harg10 v1
  else X2 i arg3 arg4 arg5 arg7 arg8 harg8 arg9 harg9 arg10 harg10 v1
/-- The activation rows from row 0 on quantised, chunk by chunk, those active, then the rest. -/
def X0 (v1 : BitVec 32) : KProg F PUnit :=
  if cnd v1 0#32 = 1#1 then seqL (xBlk128 arg3 arg8 harg8 0 (by decide) (by decide)) ks >>= fun _ => X1 i arg3 arg4 arg5 arg7 arg8 harg8 arg9 harg9 arg10 harg10 v1
  else X1 i arg3 arg4 arg5 arg7 arg8 harg8 arg9 harg9 arg10 harg10 v1
/-- A point's work up to the copy of the codes. -/
def G0 (v1 : BitVec 32) : KProg F PUnit :=
  if k0_cond1 i = 1#1 then do
    let v35 : Vec F S1x683x17 .f32 ← Prog.lift (.load arg7 (Rect.unit (s := S1x683x17) ![0, 0, 0] S1x683x17.size inb_S1x683x17_S1x683x17_0_0_0).toLoadRect (View.loadsAt_vmem h_S1x683x17))
    Prog.lift (.store arg7 (Rect.unit (s := S1x683x17) ![0, 0, 0] S1x683x17.size inb_S1x683x17_S1x683x17_0_0_0) (broadcast S1x683x17 (Scalar.ofBits .f32 0x3F800000#32 : F .f32)) Finset.univ (View.stores_vmem_bits_univ h_S1x683x17 rfl) (.inl rfl))
    X0 i arg3 arg4 arg5 arg7 arg8 harg8 arg9 harg9 arg10 harg10 v1
  else W0 i arg4 arg5 arg7 arg8 arg9 harg9 arg10 harg10 v1

/-- The copy of the codes out. -/
def fin : KProg F PUnit := do
  let v30 : Vec F S683x128 .fp8e4m3 ← Prog.lift (.load arg10 (Rect.unit (s := S704x128) ![0, 0] S683x128.size inb_S704x128_S683x128_0_0).toLoadRect (View.loadsAt_vmem h_S683x128))
  let v31 : Vec F S1x683x128 .fp8e4m3 ← Prog.lift (.load arg6 (Rect.unit (s := S1x683x128) ![0, 0, 0] S1x683x128.size inb_S1x683x128_S1x683x128_0_0_0).toLoadRect (View.loadsAt_vmem h_S1x683x128))
  Prog.lift (.store arg6 (Rect.unit (s := S1x683x128) ![0, 0, 0] S1x683x128.size inb_S1x683x128_S1x683x128_0_0_0) (shapeCast S1x683x128 v30 shapeCasts_S683x128_S1x683x128 : FVec F S1x683x128 .fp8e4m3) Finset.univ (View.stores_vmem h_S1x683x128 (harg6.storeExact_slice rfl _ packedfp8e4m3_S1x683x128_S1x683x128_0_0_0) (fun _ => rfl)) (.inl rfl))

/-- The kernel's function over its structure. -/
def kern : KProg F PUnit := do
  let v1 : Elt F .i32 ← smemLoad arg2 (Rect.unit (s := S24) (k0_off1 i) S1.size (k0_off1_inb i)) numel1_S1 rfl
  G0 i arg3 arg4 arg5 arg7 arg8 harg8 arg9 harg9 arg10 harg10 v1
  fin arg6 harg6 arg10

set_option maxRecDepth 100000 in
/-- The printed function is the structured one. -/
theorem cc0_eq : cc0_swiglu (F := F) i arg2 harg2 arg3 harg3 arg4 harg4 arg5 harg5 arg6 harg6 arg7 harg7 arg8 harg8 arg9 harg9 arg10 harg10
    = kern i arg2 arg3 arg4 arg5 arg6 harg6 arg7 arg8 harg8 arg9 harg9 arg10 harg10 := by
  chain_rfl
end

end Cert.KernelIdeal.Body

end
-- ==== Proof.Triple.lean ====
/- What the kernel's body does to its buffers, at any float values: each block's loads and stores as a function of the
   whole buffers' contents, composed over the loops and the branches. -/
module

public import proofs.«01_k».proof.Proof.Body
public import Idealize.ShloMosaic.Lib.VecWindow
public import Idealize.ShloMosaic.Lib.Pipeline.FrameBody
public import Idealize.ShloMosaic.Lib.Claim
public import Idealize.ShloMosaic.Lib.Ring
public import Idealize.ShloMosaic.Lib.Tactic
public import Idealize.ShloMosaic.Lib.UnfoldOut
public import Idealize.ShloMosaic.Lib.WordCmp

@[expose] public section

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal

variable {F : FTy → Type} [FloatOps F]

local notation "𝕄" => MT nD τ sig Unit (Elt F) ℕ (UR sig nD τ) ℕ

/-! ## Loads and stores of whole buffers held at contents -/

section Rules
variable (c : Dev nD)

/-- The kernel's programs run under its own body table. -/
abbrev kwp {α : Type} (c : Dev nD) [Facts] (p : KProg F α) (Q : α → sProp 𝕄) : sProp 𝕄 :=
  wp frame (wpE (defs₀ (F := F)) Variants.none (c : Thread nD τ) none) Set.univ p Q

variable [Facts]

/-- A load of a buffer held at contents reads the contents there. -/
theorem wp_load_owns {sp : CoreSpace} {s : Shape} {e : EltTy} (m : Memref sig .tc sp s e) (q : PosShare TreeShare) (X : s.Idx → Elt F e) (r : Rect s)
    (hl : m.view.LoadsAt r.toLoadRect) {α : Type} (k : (r.shape.Idx → Elt F e) → KProg F α) (Q : α → sProp 𝕄) :
    (owns (c : Thread nD τ) m q X)
      ⊢ iprop(((owns (c : Thread nD τ) m q X) -∗ kwp c (k (View.ld X r)) Q) -∗ kwp c (.op (.load m r.toLoadRect hl) k) Q) := by
  unfold owns
  iintro ⟨%f, %hf, H⟩
  subst hf
  iintro Hk
  iapply (wp_load Variants.none (c : Thread nD τ) none Set.univ (S := m.view.set) (q := q) (f := f) (by
    intro i hi; exact (View.setOn_subset_set _ _) hi)) $$ H
  iintro H
  iapply Hk
  iexists f; isplitr; · ipureintro; rfl
  iexact H

/-- A store into a buffer held at contents overlays them. -/
theorem wp_store_owns {sp : CoreSpace} {s : Shape} {e : EltTy} (m : Memref sig .tc sp s e) (X : s.Idx → Elt F e) (r : Rect s)
    (w : r.shape.Idx → Elt F e)
    (hx : (m.access r).Stores Finset.univ) (hm : (Finset.univ : Finset r.shape.Idx) = Finset.univ ∨ ∀ a, r.stride a = 1) {α : Type} (k : PUnit → KProg F α) (Q : α → sProp 𝕄) :
    (owns (c : Thread nD τ) m fullShare X)
      ⊢ iprop(((owns (c : Thread nD τ) m fullShare (r.overlay X w)) -∗ kwp c (k ⟨⟩) Q) -∗ kwp c (.op (.store m r w Finset.univ hx hm) k) Q) := by
  unfold owns
  iintro ⟨%f, %hf, H⟩
  subst hf
  iintro Hk
  ihave H' := (show (m.view.loc (c : Thread nD τ) ↦[m.view.set]{fullShare} f : sProp 𝕄) ⊢ ((m.access r).loc (c : Thread nD τ) ↦[m.view.set]{fullShare} f) from .rfl) $$ H
  iapply (wp_store Variants.none (c : Thread nD τ) none Set.univ (m := m) (r := r) (w := w) (Mk := Finset.univ) (S := m.view.set) (f := f) (by
    intro i hi; exact View.set_slice_subset _ _ hi)) $$ H'
  iintro H
  iapply Hk
  iexists _; isplitr
  swap; · iexact H
  ipureintro
  funext y
  by_cases hy : y ∈ r.set
  · obtain ⟨x, rfl⟩ : ∃ x, r.emb x = y := r.exists_idx_of_mem hy
    rw [Rect.overlay_emb]
    exact View.read_slice_write_emb r _ w (Finset.mem_univ x)
  · rw [Rect.overlay_of_not_mem _ _ _ hy]
    exact View.read_slice_write_of_not_mem r _ w _ (by rw [Rect.map_emb_univ]; exact hy)

end Rules

/-- An overlay over a rectangle that is everything is the payload. -/
theorem overlay_whole {s : Shape} {α : Type} (r : Rect s) (h : ∀ a, r.off a = 0 ∧ r.stride a = 1 ∧ r.size a = s.size a)
    (X : s.Idx → α) (G : r.shape.Idx → α) (G' : s.Idx → α) (hG : ∀ x, G x = G' (r.emb x)) : r.overlay X G = G' := by
  funext j
  obtain ⟨x, rfl⟩ : ∃ x, r.emb x = j := r.exists_idx_of_mem (by rw [Rect.set_eq_univ_of_whole r h]; exact Finset.mem_univ j)
  rw [Rect.overlay_emb, hG]

/-! ## The buffers' contents and the steps on them -/

/-- What the kernel's own buffers hold: the scales window, the quantised activations, the scaled weights and the
    hidden codes. -/
structure St (F : FTy → Type) [FloatOps F] where
  scl : Vec F S1x683x17 .f32
  xq : Vec F S704x3584 .bf16
  wq : Vec F S256x3584 .bf16
  hc : Vec F S704x128 .fp8e4m3

section Steps
variable [Facts]
open Facts₀ Facts
variable (c : Dev nD) (i : grid0.Coords) (arg2 : Memref sig .tc .smem S24 .i32) (harg2 : arg2.IsWhole) (arg3 : Memref sig .tc .vmem S1x683x3584 .bf16) (harg3 : arg3.IsWhole) (arg4 : Memref sig .tc .vmem S1x2x128x3584 .fp8e4m3) (harg4 : arg4.IsWhole) (arg5 : Memref sig .tc .smem S1x2x17x28 .f32) (harg5 : arg5.IsWhole) (arg6 : Memref sig .tc .vmem S1x683x128 .fp8e4m3) (harg6 : arg6.IsWhole) (arg7 : Memref sig .tc .vmem S1x683x17 .f32) (harg7 : arg7.IsWhole) (arg8 : Memref sig .tc .vmem S704x3584 .bf16) (harg8 : arg8.IsWhole) (arg9 : Memref sig .tc .vmem S256x3584 .bf16) (harg9 : arg9.IsWhole) (arg10 : Memref sig .tc .vmem S704x128 .fp8e4m3) (harg10 : arg10.IsWhole)
variable (x : Vec F S1x683x3584 .bf16) (w : Vec F S1x2x128x3584 .fp8e4m3) (ws : Vec F S1x2x17x28 .f32)

/-- The inputs' blocks and the kernel's buffers, held. -/
def Own (S : St F) : sProp 𝕄 :=
  iprop(owns (c : Thread nD τ) arg3 fullShare x ∗ owns (c : Thread nD τ) arg4 fullShare w ∗ owns (c : Thread nD τ) arg5 fullShare ws
    ∗ owns (c : Thread nD τ) arg7 fullShare S.scl ∗ owns (c : Thread nD τ) arg8 fullShare S.xq ∗ owns (c : Thread nD τ) arg9 fullShare S.wq
    ∗ owns (c : Thread nD τ) arg10 fullShare S.hc)

/-- A program that takes the buffers from contents `S` to contents `f S`. -/
def Steps (p : KProg F PUnit) (f : St F → St F) : Prop :=
  ∀ (S : St F) (k : PUnit → KProg F PUnit) (Q : PUnit → sProp 𝕄),
    Own c arg3 arg4 arg5 arg7 arg8 arg9 arg10 x w ws S
      ⊢ iprop((Own c arg3 arg4 arg5 arg7 arg8 arg9 arg10 x w ws (f S) -∗ kwp c (k ⟨⟩) Q) -∗ kwp c (p >>= k) Q)

local notation "STEPS" => Steps c arg3 arg4 arg5 arg7 arg8 arg9 arg10 x w ws

/-- Nothing done. -/
theorem steps_pure : STEPS (pure ⟨⟩) id := by
  intro S k Q
  iintro H Hk
  iapply Hk; iexact H

/-- Sequencing re-associates. -/
theorem bind_assoc' (p : KProg F PUnit) (p' : KProg F PUnit) (k : PUnit → KProg F PUnit) :
    ((p >>= fun _ => p') >>= k) = (p >>= fun _ => (p' >>= k)) := by
  exact Prog.bind_assoc _ _ _

/-- One program after another. -/
theorem steps_bind {p p' : KProg F PUnit} {f g : St F → St F} (h : STEPS p f) (h' : STEPS p' g) :
    STEPS (p >>= fun _ => p') (fun S => g (f S)) := by
  intro S k Q
  rw [bind_assoc']
  iintro H Hk
  iapply (h S (fun _ => p' >>= k) Q) $$ H
  iintro H
  iapply (h' (f S) k Q) $$ H
  iexact Hk

/-- A branch. -/
theorem steps_ite {p p' : KProg F PUnit} {f g : St F → St F} (b : Prop) [Decidable b] (h : STEPS p f) (h' : STEPS p' g) :
    STEPS (if b then p else p') (fun S => if b then f S else g S) := by
  by_cases hb : b
  · simp only [if_pos hb]; exact h
  · simp only [if_neg hb]; exact h'

/-- A list's programs in order. -/
theorem steps_seqL {α : Type} {p : α → KProg F PUnit} {f : α → St F → St F} (h : ∀ a, STEPS (p a) (f a)) (L : List α) :
    STEPS (seqL p L) (fun S => L.foldl (fun S a => f a S) S) := by
  induction L with
  | nil => exact steps_pure c arg3 arg4 arg5 arg7 arg8 arg9 arg10 x w ws
  | cons a L ih =>
    have hb := steps_bind c arg3 arg4 arg5 arg7 arg8 arg9 arg10 x w ws (h a) ih
    simp only [List.foldl_cons]
    exact hb

/-- The quantised activations after one block. -/
def qX128 (x : Vec F S1x683x3584 .bf16) (r0 : Nat) (hr : r0 + 128 ≤ 683) (j : Fin 28) (A : Vec F S704x3584 .bf16) : Vec F S704x3584 .bf16 :=
  (rQ128 r0 hr j).overlay A (xpay128 (View.ld x (rX128 r0 hr j)))
/-- The quantised activations after one block of the last rows. -/
def qX43 (x : Vec F S1x683x3584 .bf16) (j : Fin 28) (A : Vec F S704x3584 .bf16) : Vec F S704x3584 .bf16 :=
  (rQ44 j).overlay A (updateSlice (View.ld A (rQ44 j) : Vec F S44x128 .bf16) (xpay43 (View.ld x (rX43 j))) ![0, 0] slices_S44x128_S43x128_0_0)
/-- The scaled weights after one block. -/
def qW (i : grid0.Coords) (w : Vec F S1x2x128x3584 .fp8e4m3) (ws : Vec F S1x2x17x28 .f32) (gj : Fin 2 × Fin 28) (A : Vec F S256x3584 .bf16) : Vec F S256x3584 .bf16 :=
  (rWQ gj.1 gj.2).overlay A (wpay (View.ld ws (rWS i gj.1 gj.2) (Shape.Idx.first (numel1_S1x1x1x1.symm ▸ Nat.one_pos))) (View.ld w (rW gj.1 gj.2)))

/-- One activation block. -/
theorem steps_xBlk128 (r0 : Nat) (hr : r0 + 128 ≤ 683) (hp : 8 ∣ r0) (j : Fin 28) :
    STEPS (xBlk128 arg3 arg8 harg8 r0 hr hp j) (fun S => { S with xq := qX128 x r0 hr j S.xq }) := by
  intro S k Q
  rw [show (xBlk128 arg3 arg8 harg8 r0 hr hp j >>= k) = (.op (.load arg3 (rX128 r0 hr j).toLoadRect (View.loadsAt_vmem h_S1x128x128)) fun v =>
    .op (.load arg8 (rQ128 r0 hr j).toLoadRect (View.loadsAt_vmem h_S128x128)) fun _ => .op (.store arg8 (rQ128 r0 hr j) (xpay128 v) Finset.univ (View.stores_vmem h_S128x128 (harg8.storeExact_slice rfl _ (pQ128 r0 hr hp j)) (fun _ => rfl)) (.inl rfl)) k : KProg F PUnit) from rfl]
  unfold Own
  iintro ⟨H3, H4, H5, H7, H8, H9, H10⟩ Hk
  iapply (wp_load_owns c arg3 fullShare x (rX128 r0 hr j)) $$ H3
  iintro H3
  iapply (wp_load_owns c arg8 fullShare S.xq (rQ128 r0 hr j)) $$ H8
  iintro H8
  iapply (wp_store_owns c arg8 S.xq (rQ128 r0 hr j)) $$ H8
  iintro H8
  iapply Hk
  iframe
  iexact H8

/-- One activation block of the last rows. -/
theorem steps_xBlk43 (j : Fin 28) :
    STEPS (xBlk43 arg3 arg8 harg8 j) (fun S => { S with xq := qX43 x j S.xq }) := by
  intro S k Q
  rw [show (xBlk43 arg3 arg8 harg8 j >>= k) = (.op (.load arg3 (rX43 j).toLoadRect (View.loadsAt_vmem h_S1x43x128)) fun v =>
    .op (.load arg8 (rQ43 j).toLoadRect (View.loadsAt_vmem h_S43x128)) fun _ => .op (.load arg8 (rQ44 j).toLoadRect (View.loadsAt_vmem h_S44x128)) fun old =>
    .op (.store arg8 (rQ44 j) (updateSlice old (xpay43 v) ![0, 0] slices_S44x128_S43x128_0_0) Finset.univ (View.stores_vmem h_S44x128 (harg8.storeExact_slice rfl _ (pQ44 j)) (fun _ => rfl)) (.inl rfl)) k : KProg F PUnit) from rfl]
  unfold Own
  iintro ⟨H3, H4, H5, H7, H8, H9, H10⟩ Hk
  iapply (wp_load_owns c arg3 fullShare x (rX43 j)) $$ H3
  iintro H3
  iapply (wp_load_owns c arg8 fullShare S.xq (rQ43 j)) $$ H8
  iintro H8
  iapply (wp_load_owns c arg8 fullShare S.xq (rQ44 j)) $$ H8
  iintro H8
  iapply (wp_store_owns c arg8 S.xq (rQ44 j)) $$ H8
  iintro H8
  iapply Hk
  iframe
  iexact H8

/-- One weight block. -/
theorem steps_wBlk (gj : Fin 2 × Fin 28) :
    STEPS (wBlk i arg4 arg5 arg9 harg9 gj) (fun S => { S with wq := qW i w ws gj S.wq }) := by
  intro S k Q
  rw [show (wBlk i arg4 arg5 arg9 harg9 gj >>= k) = (.op (.load arg5 (rWS i gj.1 gj.2).toLoadRect (View.loadsAt_rect (View.loads_smem_one rfl numel1_S1x1x1x1))) fun v640 =>
    .op (.load arg4 (rW gj.1 gj.2).toLoadRect (View.loadsAt_vmem h_S1x1x128x128)) fun v642 => .op (.load arg9 (rWQ gj.1 gj.2).toLoadRect (View.loadsAt_vmem h_S128x128)) fun _ =>
    .op (.store arg9 (rWQ gj.1 gj.2) (wpay (v640 (Shape.Idx.first (numel1_S1x1x1x1.symm ▸ Nat.one_pos))) v642) Finset.univ (View.stores_vmem h_S128x128 (harg9.storeExact_slice rfl _ (pWQ gj.1 gj.2)) (fun _ => rfl)) (.inl rfl)) k : KProg F PUnit) from rfl]
  unfold Own
  iintro ⟨H3, H4, H5, H7, H8, H9, H10⟩ Hk
  iapply (wp_load_owns c arg5 fullShare ws (rWS i gj.1 gj.2)) $$ H5
  iintro H5
  iapply (wp_load_owns c arg4 fullShare w (rW gj.1 gj.2)) $$ H4
  iintro H4
  iapply (wp_load_owns c arg9 fullShare S.wq (rWQ gj.1 gj.2)) $$ H9
  iintro H9
  iapply (wp_store_owns c arg9 S.wq (rWQ gj.1 gj.2)) $$ H9
  iintro H9
  iapply Hk
  iframe
  iexact H9

/-- All the scaled weights, read. -/
def wqAll (S : St F) : Vec F S256x3584 .bf16 := View.ld S.wq (Rect.unit (s := S256x3584) ![0, 0] S256x3584.size inb_S256x3584_S256x3584_0_0)

/-- The buffers after one chunk of hidden rows. -/
def dH128 (i : grid0.Coords) (v1 : BitVec 32) (r0 : Nat) (hr : r0 + 128 ≤ 683) (S : St F) : St F :=
  { S with
    hc := (rH128 r0 hr).overlay S.hc (hcod128 (BitVec.ofNat 32 r0) v1 (View.ld S.xq (rQrow128 r0 hr)) (wqAll S))
    scl := (rS128 r0 hr).overlay S.scl (hscl128 (lane i) (BitVec.ofNat 32 r0) v1 (View.ld S.xq (rQrow128 r0 hr)) (wqAll S) (View.ld S.scl (rS128 r0 hr))) }

/-- The buffers after the last chunk of hidden rows. -/
def dH64 (i : grid0.Coords) (v1 : BitVec 32) (S : St F) : St F :=
  { S with
    hc := (Rect.unit (s := S704x128) ![640, 0] S64x128.size inb_S704x128_S64x128_640_0).overlay S.hc (hcod64 640#32 v1 (View.ld S.xq (Rect.unit (s := S704x3584) ![640, 0] S64x3584.size inb_S704x3584_S64x3584_640_0)) (wqAll S))
    scl := (Rect.unit (s := S1x683x17) ![0, 640, 0] S1x43x17.size inb_S1x683x17_S1x43x17_0_640_0).overlay S.scl (hscl64 (lane i) 640#32 v1 (View.ld S.xq (Rect.unit (s := S704x3584) ![640, 0] S64x3584.size inb_S704x3584_S64x3584_640_0)) (wqAll S) (View.ld S.scl (Rect.unit (s := S1x683x17) ![0, 640, 0] S1x43x17.size inb_S1x683x17_S1x43x17_0_640_0))) }

/-- One chunk of hidden rows. -/
theorem steps_hBlk128 (v1 : BitVec 32) (r0 : Nat) (hr : r0 + 128 ≤ 683) (hp : 8 ∣ r0) :
    STEPS (hBlk128 i arg7 arg8 arg9 arg10 harg10 v1 r0 hr hp) (dH128 i v1 r0 hr) := by
  intro S k Q
  rw [show (hBlk128 i arg7 arg8 arg9 arg10 harg10 v1 r0 hr hp >>= k) = (.op (.load arg8 (rQrow128 r0 hr).toLoadRect (View.loadsAt_vmem h_S128x3584)) fun v34 =>
    .op (.load arg9 (Rect.unit (s := S256x3584) ![0, 0] S256x3584.size inb_S256x3584_S256x3584_0_0).toLoadRect (View.loadsAt_vmem h_S256x3584)) fun v35 => .op (.load arg10 (rH128 r0 hr).toLoadRect (View.loadsAt_vmem h_S128x128)) fun _ =>
    .op (.store arg10 (rH128 r0 hr) (hcod128 (BitVec.ofNat 32 r0) v1 v34 v35) Finset.univ (View.stores_vmem h_S128x128 (harg10.storeExact_slice rfl _ (pH128 r0 hr hp)) (fun _ => rfl)) (.inl rfl)) fun _ =>
    .op (.load arg7 (rS128 r0 hr).toLoadRect (View.loadsAt_vmem h_S1x128x17)) fun v92 => .op (.load arg7 (rS128 r0 hr).toLoadRect (View.loadsAt_vmem h_S1x128x17)) fun _ =>
    .op (.store arg7 (rS128 r0 hr) (hscl128 (lane i) (BitVec.ofNat 32 r0) v1 v34 v35 v92) Finset.univ (View.stores_vmem_bits_univ h_S1x128x17 rfl) (.inl rfl)) k : KProg F PUnit) from rfl]
  unfold Own
  iintro ⟨H3, H4, H5, H7, H8, H9, H10⟩ Hk
  iapply (wp_load_owns c arg8 fullShare S.xq (rQrow128 r0 hr)) $$ H8
  iintro H8
  iapply (wp_load_owns c arg9 fullShare S.wq (Rect.unit (s := S256x3584) ![0, 0] S256x3584.size inb_S256x3584_S256x3584_0_0)) $$ H9
  iintro H9
  iapply (wp_load_owns c arg10 fullShare S.hc (rH128 r0 hr)) $$ H10
  iintro H10
  iapply (wp_store_owns c arg10 S.hc (rH128 r0 hr)) $$ H10
  iintro H10
  iapply (wp_load_owns c arg7 fullShare S.scl (rS128 r0 hr)) $$ H7
  iintro H7
  iapply (wp_load_owns c arg7 fullShare S.scl (rS128 r0 hr)) $$ H7
  iintro H7
  iapply (wp_store_owns c arg7 S.scl (rS128 r0 hr)) $$ H7
  iintro H7
  iapply Hk
  isplitl [H3]; · iexact H3
  isplitl [H4]; · iexact H4
  isplitl [H5]; · iexact H5
  isplitl [H7]; · iexact H7
  isplitl [H8]; · iexact H8
  isplitl [H9]; · iexact H9
  iexact H10

/-- One chunk of hidden rows. -/
theorem steps_hBlk64 (v1 : BitVec 32) :
    STEPS (hBlk64 i arg7 arg8 arg9 arg10 harg10 v1) (dH64 i v1) := by
  intro S k Q
  rw [show (hBlk64 i arg7 arg8 arg9 arg10 harg10 v1 >>= k) = (.op (.load arg8 (Rect.unit (s := S704x3584) ![640, 0] S64x3584.size inb_S704x3584_S64x3584_640_0).toLoadRect (View.loadsAt_vmem h_S64x3584)) fun v34 =>
    .op (.load arg9 (Rect.unit (s := S256x3584) ![0, 0] S256x3584.size inb_S256x3584_S256x3584_0_0).toLoadRect (View.loadsAt_vmem h_S256x3584)) fun v35 => .op (.load arg10 (Rect.unit (s := S704x128) ![640, 0] S64x128.size inb_S704x128_S64x128_640_0).toLoadRect (View.loadsAt_vmem h_S64x128)) fun _ =>
    .op (.store arg10 (Rect.unit (s := S704x128) ![640, 0] S64x128.size inb_S704x128_S64x128_640_0) (hcod64 640#32 v1 v34 v35) Finset.univ (View.stores_vmem h_S64x128 (harg10.storeExact_slice rfl _ packedfp8e4m3_S704x128_S64x128_640_0) (fun _ => rfl)) (.inl rfl)) fun _ =>
    .op (.load arg7 (Rect.unit (s := S1x683x17) ![0, 640, 0] S1x43x17.size inb_S1x683x17_S1x43x17_0_640_0).toLoadRect (View.loadsAt_vmem h_S1x43x17)) fun v92 => .op (.load arg7 (Rect.unit (s := S1x683x17) ![0, 640, 0] S1x43x17.size inb_S1x683x17_S1x43x17_0_640_0).toLoadRect (View.loadsAt_vmem h_S1x43x17)) fun _ =>
    .op (.store arg7 (Rect.unit (s := S1x683x17) ![0, 640, 0] S1x43x17.size inb_S1x683x17_S1x43x17_0_640_0) (hscl64 (lane i) 640#32 v1 v34 v35 v92) Finset.univ (View.stores_vmem_bits_univ h_S1x43x17 rfl) (.inl rfl)) k : KProg F PUnit) from rfl]
  unfold Own
  iintro ⟨H3, H4, H5, H7, H8, H9, H10⟩ Hk
  iapply (wp_load_owns c arg8 fullShare S.xq (Rect.unit (s := S704x3584) ![640, 0] S64x3584.size inb_S704x3584_S64x3584_640_0)) $$ H8
  iintro H8
  iapply (wp_load_owns c arg9 fullShare S.wq (Rect.unit (s := S256x3584) ![0, 0] S256x3584.size inb_S256x3584_S256x3584_0_0)) $$ H9
  iintro H9
  iapply (wp_load_owns c arg10 fullShare S.hc (Rect.unit (s := S704x128) ![640, 0] S64x128.size inb_S704x128_S64x128_640_0)) $$ H10
  iintro H10
  iapply (wp_store_owns c arg10 S.hc (Rect.unit (s := S704x128) ![640, 0] S64x128.size inb_S704x128_S64x128_640_0)) $$ H10
  iintro H10
  iapply (wp_load_owns c arg7 fullShare S.scl (Rect.unit (s := S1x683x17) ![0, 640, 0] S1x43x17.size inb_S1x683x17_S1x43x17_0_640_0)) $$ H7
  iintro H7
  iapply (wp_load_owns c arg7 fullShare S.scl (Rect.unit (s := S1x683x17) ![0, 640, 0] S1x43x17.size inb_S1x683x17_S1x43x17_0_640_0)) $$ H7
  iintro H7
  iapply (wp_store_owns c arg7 S.scl (Rect.unit (s := S1x683x17) ![0, 640, 0] S1x43x17.size inb_S1x683x17_S1x43x17_0_640_0)) $$ H7
  iintro H7
  iapply Hk
  isplitl [H3]; · iexact H3
  isplitl [H4]; · iexact H4
  isplitl [H5]; · iexact H5
  isplitl [H7]; · iexact H7
  isplitl [H8]; · iexact H8
  isplitl [H9]; · iexact H9
  iexact H10

/-- The buffers after the last chunk of hidden rows, where it is active. -/
def dH5 (i : grid0.Coords) (v1 : BitVec 32) (S : St F) : St F := if k0_cond14 v1 = 1#1 then dH64 i v1 S else S
/-- The row chunks from the one numbered 5 on do what `dH5` says. -/
theorem steps_H5 (v1 : BitVec 32) : STEPS (H5 i arg7 arg8 arg9 arg10 harg10 v1) (dH5 i v1) :=
  steps_ite c arg3 arg4 arg5 arg7 arg8 arg9 arg10 x w ws _ (steps_hBlk64 c i arg3 arg4 arg5 arg7 arg8 arg9 arg10 harg10 x w ws v1) (steps_pure c arg3 arg4 arg5 arg7 arg8 arg9 arg10 x w ws)
/-- The buffers after the chunks of hidden rows from row 512 on, those active. -/
def dH4 (i : grid0.Coords) (v1 : BitVec 32) (S : St F) : St F :=
  if k0_cond13 v1 = 1#1 then dH5 i v1 (dH128 i v1 512 (by decide) S) else dH5 i v1 S
/-- The row chunks from the one numbered 4 on do what `dH4` says. -/
theorem steps_H4 (v1 : BitVec 32) : STEPS (H4 i arg7 arg8 arg9 arg10 harg10 v1) (dH4 i v1) :=
  steps_ite c arg3 arg4 arg5 arg7 arg8 arg9 arg10 x w ws _ (steps_bind c arg3 arg4 arg5 arg7 arg8 arg9 arg10 x w ws (steps_hBlk128 c i arg3 arg4 arg5 arg7 arg8 arg9 arg10 harg10 x w ws v1 512 (by decide) (by decide)) (steps_H5 c i arg3 arg4 arg5 arg7 arg8 arg9 arg10 harg10 x w ws v1)) (steps_H5 c i arg3 arg4 arg5 arg7 arg8 arg9 arg10 harg10 x w ws v1)
/-- The buffers after the chunks of hidden rows from row 384 on, those active. -/
def dH3 (i : grid0.Coords) (v1 : BitVec 32) (S : St F) : St F :=
  if k0_cond12 v1 = 1#1 then dH4 i v1 (dH128 i v1 384 (by decide) S) else dH4 i v1 S
/-- The row chunks from the one numbered 3 on do what `dH3` says. -/
theorem steps_H3 (v1 : BitVec 32) : STEPS (H3 i arg7 arg8 arg9 arg10 harg10 v1) (dH3 i v1) :=
  steps_ite c arg3 arg4 arg5 arg7 arg8 arg9 arg10 x w ws _ (steps_bind c arg3 arg4 arg5 arg7 arg8 arg9 arg10 x w ws (steps_hBlk128 c i arg3 arg4 arg5 arg7 arg8 arg9 arg10 harg10 x w ws v1 384 (by decide) (by decide)) (steps_H4 c i arg3 arg4 arg5 arg7 arg8 arg9 arg10 harg10 x w ws v1)) (steps_H4 c i arg3 arg4 arg5 arg7 arg8 arg9 arg10 harg10 x w ws v1)
/-- The buffers after the chunks of hidden rows from row 256 on, those active. -/
def dH2 (i : grid0.Coords) (v1 : BitVec 32) (S : St F) : St F :=
  if k0_cond11 v1 = 1#1 then dH3 i v1 (dH128 i v1 256 (by decide) S) else dH3 i v1 S
/-- The row chunks from the one numbered 2 on do what `dH2` says. -/
theorem steps_H2 (v1 : BitVec 32) : STEPS (H2 i arg7 arg8 arg9 arg10 harg10 v1) (dH2 i v1) :=
  steps_ite c arg3 arg4 arg5 arg7 arg8 arg9 arg10 x w ws _ (steps_bind c arg3 arg4 arg5 arg7 arg8 arg9 arg10 x w ws (steps_hBlk128 c i arg3 arg4 arg5 arg7 arg8 arg9 arg10 harg10 x w ws v1 256 (by decide) (by decide)) (steps_H3 c i arg3 arg4 arg5 arg7 arg8 arg9 arg10 harg10 x w ws v1)) (steps_H3 c i arg3 arg4 arg5 arg7 arg8 arg9 arg10 harg10 x w ws v1)
/-- The buffers after the chunks of hidden rows from row 128 on, those active. -/
def dH1 (i : grid0.Coords) (v1 : BitVec 32) (S : St F) : St F :=
  if k0_cond10 v1 = 1#1 then dH2 i v1 (dH128 i v1 128 (by decide) S) else dH2 i v1 S
/-- The row chunks from the one numbered 1 on do what `dH1` says. -/
theorem steps_H1 (v1 : BitVec 32) : STEPS (H1 i arg7 arg8 arg9 arg10 harg10 v1) (dH1 i v1) :=
  steps_ite c arg3 arg4 arg5 arg7 arg8 arg9 arg10 x w ws _ (steps_bind c arg3 arg4 arg5 arg7 arg8 arg9 arg10 x w ws (steps_hBlk128 c i arg3 arg4 arg5 arg7 arg8 arg9 arg10 harg10 x w ws v1 128 (by decide) (by decide)) (steps_H2 c i arg3 arg4 arg5 arg7 arg8 arg9 arg10 harg10 x w ws v1)) (steps_H2 c i arg3 arg4 arg5 arg7 arg8 arg9 arg10 harg10 x w ws v1)
/-- The buffers after the chunks of hidden rows from row 0 on, those active. -/
def dH0 (i : grid0.Coords) (v1 : BitVec 32) (S : St F) : St F :=
  if k0_cond9 v1 = 1#1 then dH1 i v1 (dH128 i v1 0 (by decide) S) else dH1 i v1 S
/-- The row chunks from the one numbered 0 on do what `dH0` says. -/
theorem steps_H0 (v1 : BitVec 32) : STEPS (H0 i arg7 arg8 arg9 arg10 harg10 v1) (dH0 i v1) :=
  steps_ite c arg3 arg4 arg5 arg7 arg8 arg9 arg10 x w ws _ (steps_bind c arg3 arg4 arg5 arg7 arg8 arg9 arg10 x w ws (steps_hBlk128 c i arg3 arg4 arg5 arg7 arg8 arg9 arg10 harg10 x w ws v1 0 (by decide) (by decide)) (steps_H1 c i arg3 arg4 arg5 arg7 arg8 arg9 arg10 harg10 x w ws v1)) (steps_H1 c i arg3 arg4 arg5 arg7 arg8 arg9 arg10 harg10 x w ws v1)
/-- The buffers with the hidden codes cleared. -/
def dZ (S : St F) : St F :=
  { S with hc := (Rect.unit (s := S704x128) ![0, 0] S704x128.size inb_S704x128_S704x128_0_0).overlay S.hc (shapeCast S704x128 (broadcast S704x128 (Scalar.ofBits .fp8e4m3 0x00#8 : F .fp8e4m3)) shapeCasts_S704x128_S704x128) }

/-- The scaled weights after all the blocks. -/
def qWs (i : grid0.Coords) (w : Vec F S1x2x128x3584 .fp8e4m3) (ws : Vec F S1x2x17x28 .f32) (S : St F) : St F :=
  gks.foldl (fun S gj => { S with wq := qW i w ws gj S.wq }) S

/-- The buffers after the clearing, the weights and the hidden rows. -/
def dW0 (i : grid0.Coords) (w : Vec F S1x2x128x3584 .fp8e4m3) (ws : Vec F S1x2x17x28 .f32) (v1 : BitVec 32) (S : St F) : St F :=
  if cnd v1 0#32 = 1#1 then dH0 i v1 (qWs i w ws (dZ S)) else dH0 i v1 (dZ S)

/-- The weight blocks and the row chunks after them do what `dW0` says. -/
theorem steps_W0 (v1 : BitVec 32) : STEPS (W0 i arg4 arg5 arg7 arg8 arg9 harg9 arg10 harg10 v1) (dW0 i w ws v1) := by
  intro S k Q
  rw [show (W0 i arg4 arg5 arg7 arg8 arg9 harg9 arg10 harg10 v1 >>= k) = (.op (.load arg10 (Rect.unit (s := S704x128) ![0, 0] S704x128.size inb_S704x128_S704x128_0_0).toLoadRect (View.loadsAt_vmem h_S704x128)) fun _ =>
    .op (.store arg10 (Rect.unit (s := S704x128) ![0, 0] S704x128.size inb_S704x128_S704x128_0_0) (shapeCast S704x128 (broadcast S704x128 (Scalar.ofBits .fp8e4m3 0x00#8 : F .fp8e4m3)) shapeCasts_S704x128_S704x128) Finset.univ (View.stores_vmem h_S704x128 (harg10.storeExact_slice rfl _ packedfp8e4m3_S704x128_S704x128_0_0) (fun _ => rfl)) (.inl rfl)) fun _ =>
    ((if cnd v1 0#32 = 1#1 then seqL (wBlk i arg4 arg5 arg9 harg9) gks >>= fun _ => H0 i arg7 arg8 arg9 arg10 harg10 v1
      else H0 i arg7 arg8 arg9 arg10 harg10 v1) >>= k) : KProg F PUnit) from rfl]
  have hrest := steps_ite c arg3 arg4 arg5 arg7 arg8 arg9 arg10 x w ws (cnd v1 0#32 = 1#1) (steps_bind c arg3 arg4 arg5 arg7 arg8 arg9 arg10 x w ws (steps_seqL c arg3 arg4 arg5 arg7 arg8 arg9 arg10 x w ws (steps_wBlk c i arg3 arg4 arg5 arg7 arg8 arg9 harg9 arg10 x w ws) gks)
    (steps_H0 c i arg3 arg4 arg5 arg7 arg8 arg9 arg10 harg10 x w ws v1)) (steps_H0 c i arg3 arg4 arg5 arg7 arg8 arg9 arg10 harg10 x w ws v1) (dZ S) k Q
  unfold Own at hrest ⊢
  iintro ⟨H3, H4, H5, H7, H8, H9, H10⟩ Hk
  iapply (wp_load_owns c arg10 fullShare S.hc (Rect.unit (s := S704x128) ![0, 0] S704x128.size inb_S704x128_S704x128_0_0)) $$ H10
  iintro H10
  iapply (wp_store_owns c arg10 S.hc (Rect.unit (s := S704x128) ![0, 0] S704x128.size inb_S704x128_S704x128_0_0)) $$ H10
  iintro H10
  iapply hrest $$ [H3 H4 H5 H7 H8 H9 H10]
  · isplitl [H3]; · iexact H3
    isplitl [H4]; · iexact H4
    isplitl [H5]; · iexact H5
    isplitl [H7]; · iexact H7
    isplitl [H8]; · iexact H8
    isplitl [H9]; · iexact H9
    iexact H10
  iexact Hk

/-- The quantised activations after a chunk's blocks. -/
def qXs128 (x : Vec F S1x683x3584 .bf16) (r0 : Nat) (hr : r0 + 128 ≤ 683) (S : St F) : St F :=
  ks.foldl (fun S j => { S with xq := qX128 x r0 hr j S.xq }) S
/-- The quantised activations after the last rows' blocks. -/
def qXs43 (x : Vec F S1x683x3584 .bf16) (S : St F) : St F :=
  ks.foldl (fun S j => { S with xq := qX43 x j S.xq }) S

/-- The buffers after the last activation rows and the rest. -/
def dX5 (i : grid0.Coords) (x : Vec F S1x683x3584 .bf16) (w : Vec F S1x2x128x3584 .fp8e4m3) (ws : Vec F S1x2x17x28 .f32) (v1 : BitVec 32) (S : St F) : St F :=
  if cnd v1 640#32 = 1#1 then dW0 i w ws v1 (qXs43 x S) else dW0 i w ws v1 S
/-- The tokens' chunks from the one numbered 5 on, with the rest of the body, do what `dX5` says. -/
theorem steps_X5 (v1 : BitVec 32) : STEPS (X5 i arg3 arg4 arg5 arg7 arg8 harg8 arg9 harg9 arg10 harg10 v1) (dX5 i x w ws v1) :=
  steps_ite c arg3 arg4 arg5 arg7 arg8 arg9 arg10 x w ws _ (steps_bind c arg3 arg4 arg5 arg7 arg8 arg9 arg10 x w ws (steps_seqL c arg3 arg4 arg5 arg7 arg8 arg9 arg10 x w ws (steps_xBlk43 c arg3 arg4 arg5 arg7 arg8 harg8 arg9 arg10 x w ws) ks)
    (steps_W0 c i arg3 arg4 arg5 arg7 arg8 arg9 harg9 arg10 harg10 x w ws v1)) (steps_W0 c i arg3 arg4 arg5 arg7 arg8 arg9 harg9 arg10 harg10 x w ws v1)
/-- The buffers after the activation rows from row 512 on, those active, and the rest. -/
def dX4 (i : grid0.Coords) (x : Vec F S1x683x3584 .bf16) (w : Vec F S1x2x128x3584 .fp8e4m3) (ws : Vec F S1x2x17x28 .f32) (v1 : BitVec 32) (S : St F) : St F :=
  if cnd v1 512#32 = 1#1 then dX5 i x w ws v1 (qXs128 x 512 (by decide) S) else dX5 i x w ws v1 S
/-- The tokens' chunks from the one numbered 4 on, with the rest of the body, do what `dX4` says. -/
theorem steps_X4 (v1 : BitVec 32) : STEPS (X4 i arg3 arg4 arg5 arg7 arg8 harg8 arg9 harg9 arg10 harg10 v1) (dX4 i x w ws v1) :=
  steps_ite c arg3 arg4 arg5 arg7 arg8 arg9 arg10 x w ws _ (steps_bind c arg3 arg4 arg5 arg7 arg8 arg9 arg10 x w ws (steps_seqL c arg3 arg4 arg5 arg7 arg8 arg9 arg10 x w ws (steps_xBlk128 c arg3 arg4 arg5 arg7 arg8 harg8 arg9 arg10 x w ws 512 (by decide) (by decide)) ks)
    (steps_X5 c i arg3 arg4 arg5 arg7 arg8 harg8 arg9 harg9 arg10 harg10 x w ws v1)) (steps_X5 c i arg3 arg4 arg5 arg7 arg8 harg8 arg9 harg9 arg10 harg10 x w ws v1)
/-- The buffers after the activation rows from row 384 on, those active, and the rest. -/
def dX3 (i : grid0.Coords) (x : Vec F S1x683x3584 .bf16) (w : Vec F S1x2x128x3584 .fp8e4m3) (ws : Vec F S1x2x17x28 .f32) (v1 : BitVec 32) (S : St F) : St F :=
  if cnd v1 384#32 = 1#1 then dX4 i x w ws v1 (qXs128 x 384 (by decide) S) else dX4 i x w ws v1 S
/-- The tokens' chunks from the one numbered 3 on, with the rest of the body, do what `dX3` says. -/
theorem steps_X3 (v1 : BitVec 32) : STEPS (X3 i arg3 arg4 arg5 arg7 arg8 harg8 arg9 harg9 arg10 harg10 v1) (dX3 i x w ws v1) :=
  steps_ite c arg3 arg4 arg5 arg7 arg8 arg9 arg10 x w ws _ (steps_bind c arg3 arg4 arg5 arg7 arg8 arg9 arg10 x w ws (steps_seqL c arg3 arg4 arg5 arg7 arg8 arg9 arg10 x w ws (steps_xBlk128 c arg3 arg4 arg5 arg7 arg8 harg8 arg9 arg10 x w ws 384 (by decide) (by decide)) ks)
    (steps_X4 c i arg3 arg4 arg5 arg7 arg8 harg8 arg9 harg9 arg10 harg10 x w ws v1)) (steps_X4 c i arg3 arg4 arg5 arg7 arg8 harg8 arg9 harg9 arg10 harg10 x w ws v1)
/-- The buffers after the activation rows from row 256 on, those active, and the rest. -/
def dX2 (i : grid0.Coords) (x : Vec F S1x683x3584 .bf16) (w : Vec F S1x2x128x3584 .fp8e4m3) (ws : Vec F S1x2x17x28 .f32) (v1 : BitVec 32) (S : St F) : St F :=
  if cnd v1 256#32 = 1#1 then dX3 i x w ws v1 (qXs128 x 256 (by decide) S) else dX3 i x w ws v1 S
/-- The tokens' chunks from the one numbered 2 on, with the rest of the body, do what `dX2` says. -/
theorem steps_X2 (v1 : BitVec 32) : STEPS (X2 i arg3 arg4 arg5 arg7 arg8 harg8 arg9 harg9 arg10 harg10 v1) (dX2 i x w ws v1) :=
  steps_ite c arg3 arg4 arg5 arg7 arg8 arg9 arg10 x w ws _ (steps_bind c arg3 arg4 arg5 arg7 arg8 arg9 arg10 x w ws (steps_seqL c arg3 arg4 arg5 arg7 arg8 arg9 arg10 x w ws (steps_xBlk128 c arg3 arg4 arg5 arg7 arg8 harg8 arg9 arg10 x w ws 256 (by decide) (by decide)) ks)
    (steps_X3 c i arg3 arg4 arg5 arg7 arg8 harg8 arg9 harg9 arg10 harg10 x w ws v1)) (steps_X3 c i arg3 arg4 arg5 arg7 arg8 harg8 arg9 harg9 arg10 harg10 x w ws v1)
/-- The buffers after the activation rows from row 128 on, those active, and the rest. -/
def dX1 (i : grid0.Coords) (x : Vec F S1x683x3584 .bf16) (w : Vec F S1x2x128x3584 .fp8e4m3) (ws : Vec F S1x2x17x28 .f32) (v1 : BitVec 32) (S : St F) : St F :=
  if cnd v1 128#32 = 1#1 then dX2 i x w ws v1 (qXs128 x 128 (by decide) S) else dX2 i x w ws v1 S
/-- The tokens' chunks from the one numbered 1 on, with the rest of the body, do what `dX1` says. -/
theorem steps_X1 (v1 : BitVec 32) : STEPS (X1 i arg3 arg4 arg5 arg7 arg8 harg8 arg9 harg9 arg10 harg10 v1) (dX1 i x w ws v1) :=
  steps_ite c arg3 arg4 arg5 arg7 arg8 arg9 arg10 x w ws _ (steps_bind c arg3 arg4 arg5 arg7 arg8 arg9 arg10 x w ws (steps_seqL c arg3 arg4 arg5 arg7 arg8 arg9 arg10 x w ws (steps_xBlk128 c arg3 arg4 arg5 arg7 arg8 harg8 arg9 arg10 x w ws 128 (by decide) (by decide)) ks)
    (steps_X2 c i arg3 arg4 arg5 arg7 arg8 harg8 arg9 harg9 arg10 harg10 x w ws v1)) (steps_X2 c i arg3 arg4 arg5 arg7 arg8 harg8 arg9 harg9 arg10 harg10 x w ws v1)
/-- The buffers after the activation rows from row 0 on, those active, and the rest. -/
def dX0 (i : grid0.Coords) (x : Vec F S1x683x3584 .bf16) (w : Vec F S1x2x128x3584 .fp8e4m3) (ws : Vec F S1x2x17x28 .f32) (v1 : BitVec 32) (S : St F) : St F :=
  if cnd v1 0#32 = 1#1 then dX1 i x w ws v1 (qXs128 x 0 (by decide) S) else dX1 i x w ws v1 S
/-- The tokens' chunks from the one numbered 0 on, with the rest of the body, do what `dX0` says. -/
theorem steps_X0 (v1 : BitVec 32) : STEPS (X0 i arg3 arg4 arg5 arg7 arg8 harg8 arg9 harg9 arg10 harg10 v1) (dX0 i x w ws v1) :=
  steps_ite c arg3 arg4 arg5 arg7 arg8 arg9 arg10 x w ws _ (steps_bind c arg3 arg4 arg5 arg7 arg8 arg9 arg10 x w ws (steps_seqL c arg3 arg4 arg5 arg7 arg8 arg9 arg10 x w ws (steps_xBlk128 c arg3 arg4 arg5 arg7 arg8 harg8 arg9 arg10 x w ws 0 (by decide) (by decide)) ks)
    (steps_X1 c i arg3 arg4 arg5 arg7 arg8 harg8 arg9 harg9 arg10 harg10 x w ws v1)) (steps_X1 c i arg3 arg4 arg5 arg7 arg8 harg8 arg9 harg9 arg10 harg10 x w ws v1)
/-- The buffers with the scales set to one. -/
def dO (S : St F) : St F :=
  { S with scl := (Rect.unit (s := S1x683x17) ![0, 0, 0] S1x683x17.size inb_S1x683x17_S1x683x17_0_0_0).overlay S.scl (broadcast S1x683x17 (Scalar.ofBits .f32 0x3F800000#32 : F .f32)) }

/-- The buffers after a point's work. -/
def dG0 (i : grid0.Coords) (x : Vec F S1x683x3584 .bf16) (w : Vec F S1x2x128x3584 .fp8e4m3) (ws : Vec F S1x2x17x28 .f32) (v1 : BitVec 32) (S : St F) : St F :=
  if k0_cond1 i = 1#1 then dX0 i x w ws v1 (dO S) else dW0 i w ws v1 S

/-- The scales set to one, then the activations. -/
theorem steps_O (v1 : BitVec 32) : STEPS (do
      let v35 : Vec F S1x683x17 .f32 ← Prog.lift (.load arg7 (Rect.unit (s := S1x683x17) ![0, 0, 0] S1x683x17.size inb_S1x683x17_S1x683x17_0_0_0).toLoadRect (View.loadsAt_vmem h_S1x683x17))
      Prog.lift (.store arg7 (Rect.unit (s := S1x683x17) ![0, 0, 0] S1x683x17.size inb_S1x683x17_S1x683x17_0_0_0) (broadcast S1x683x17 (Scalar.ofBits .f32 0x3F800000#32 : F .f32)) Finset.univ (View.stores_vmem_bits_univ h_S1x683x17 rfl) (.inl rfl))
      X0 i arg3 arg4 arg5 arg7 arg8 harg8 arg9 harg9 arg10 harg10 v1) (fun S => dX0 i x w ws v1 (dO S)) := by
  intro S k Q
  have hrest := steps_X0 c i arg3 arg4 arg5 arg7 arg8 harg8 arg9 harg9 arg10 harg10 x w ws v1 (dO S) k Q
  unfold Own at hrest ⊢
  iintro ⟨H3, H4, H5, H7, H8, H9, H10⟩ Hk
  iapply (wp_load_owns c arg7 fullShare S.scl (Rect.unit (s := S1x683x17) ![0, 0, 0] S1x683x17.size inb_S1x683x17_S1x683x17_0_0_0)) $$ H7
  iintro H7
  iapply (wp_store_owns c arg7 S.scl (Rect.unit (s := S1x683x17) ![0, 0, 0] S1x683x17.size inb_S1x683x17_S1x683x17_0_0_0)) $$ H7
  iintro H7
  iapply hrest $$ [H3 H4 H5 H7 H8 H9 H10]
  · isplitl [H3]; · iexact H3
    isplitl [H4]; · iexact H4
    isplitl [H5]; · iexact H5
    isplitl [H7]; · iexact H7
    isplitl [H8]; · iexact H8
    isplitl [H9]; · iexact H9
    iexact H10
  iexact Hk

/-- The whole body does what `dG0` says. -/
theorem steps_G0 (v1 : BitVec 32) : STEPS (G0 i arg3 arg4 arg5 arg7 arg8 harg8 arg9 harg9 arg10 harg10 v1) (dG0 i x w ws v1) :=
  steps_ite c arg3 arg4 arg5 arg7 arg8 arg9 arg10 x w ws _ (steps_O c i arg3 arg4 arg5 arg7 arg8 harg8 arg9 harg9 arg10 harg10 x w ws v1) (steps_W0 c i arg3 arg4 arg5 arg7 arg8 arg9 harg9 arg10 harg10 x w ws v1)

/-- The codes the point copies out. -/
def outCod (S : St F) : Vec F S1x683x128 .fp8e4m3 := shapeCast S1x683x128 (View.ld S.hc (Rect.unit (s := S704x128) ![0, 0] S683x128.size inb_S704x128_S683x128_0_0) : Vec F S683x128 .fp8e4m3) shapeCasts_S683x128_S1x683x128

/-- The table's word at the point. -/
def tblAt (i : grid0.Coords) (tbl : Vec F S24 .i32) : BitVec 32 :=
  View.ld tbl (Rect.unit (s := S24) (k0_off1 i) S1.size (k0_off1_inb i)) (Shape.Idx.first (numel1_S1.symm ▸ Nat.one_pos))

/-- The printed function at a grid point: from the table, the inputs' blocks and the buffers at any contents, the
    codes window is left at the copied codes and the buffers at the point's work. -/
theorem wp_body (qt : PosShare TreeShare) (tbl : Vec F S24 .i32) (S : St F) (C : Vec F S1x683x128 .fp8e4m3) (Q : PUnit → sProp 𝕄) :
    iprop(owns (c : Thread nD τ) arg2 qt tbl ∗ owns (c : Thread nD τ) arg6 fullShare C ∗ Own c arg3 arg4 arg5 arg7 arg8 arg9 arg10 x w ws S)
      ⊢ iprop((iprop(owns (c : Thread nD τ) arg2 qt tbl ∗ owns (c : Thread nD τ) arg6 fullShare (outCod (dG0 i x w ws (tblAt i tbl) S)) ∗ Own c arg3 arg4 arg5 arg7 arg8 arg9 arg10 x w ws (dG0 i x w ws (tblAt i tbl) S)) -∗ Q ⟨⟩)
        -∗ kwp c (cc0_swiglu (F := F) i arg2 harg2 arg3 harg3 arg4 harg4 arg5 harg5 arg6 harg6 arg7 harg7 arg8 harg8 arg9 harg9 arg10 harg10) Q) := by
  rw [cc0_eq]
  rw [show kern i arg2 arg3 arg4 arg5 arg6 harg6 arg7 arg8 harg8 arg9 harg9 arg10 harg10 = (.op (.load arg2 (Rect.unit (s := S24) (k0_off1 i) S1.size (k0_off1_inb i)).toLoadRect (View.loadsAt_rect (View.loads_smem_one rfl numel1_S1))) fun v =>
    (G0 i arg3 arg4 arg5 arg7 arg8 harg8 arg9 harg9 arg10 harg10 (v (Shape.Idx.first (numel1_S1.symm ▸ Nat.one_pos))) >>= fun _ =>
    .op (.load arg10 (Rect.unit (s := S704x128) ![0, 0] S683x128.size inb_S704x128_S683x128_0_0).toLoadRect (View.loadsAt_vmem h_S683x128)) fun v30 => .op (.load arg6 (Rect.unit (s := S1x683x128) ![0, 0, 0] S1x683x128.size inb_S1x683x128_S1x683x128_0_0_0).toLoadRect (View.loadsAt_vmem h_S1x683x128)) fun _ =>
    .op (.store arg6 (Rect.unit (s := S1x683x128) ![0, 0, 0] S1x683x128.size inb_S1x683x128_S1x683x128_0_0_0) (shapeCast S1x683x128 v30 shapeCasts_S683x128_S1x683x128 : FVec F S1x683x128 .fp8e4m3) Finset.univ (View.stores_vmem h_S1x683x128 (harg6.storeExact_slice rfl _ packedfp8e4m3_S1x683x128_S1x683x128_0_0_0) (fun _ => rfl)) (.inl rfl)) fun _ => .ret ⟨⟩) : KProg F PUnit) from rfl]
  iintro ⟨H2, H6, HO⟩ Hk
  iapply (wp_load_owns c arg2 qt tbl (Rect.unit (s := S24) (k0_off1 i) S1.size (k0_off1_inb i))) $$ H2
  iintro H2
  iapply (steps_G0 c i arg3 arg4 arg5 arg7 arg8 harg8 arg9 harg9 arg10 harg10 x w ws (tblAt i tbl) S) $$ HO
  iintro HO
  generalize dG0 i x w ws (tblAt i tbl) S = S'
  unfold Own
  icases HO with ⟨H3, H4, H5, H7, H8, H9, H10⟩
  iapply (wp_load_owns c arg10 fullShare S'.hc (Rect.unit (s := S704x128) ![0, 0] S683x128.size inb_S704x128_S683x128_0_0)) $$ H10
  iintro H10
  iapply (wp_load_owns c arg6 fullShare C (Rect.unit (s := S1x683x128) ![0, 0, 0] S1x683x128.size inb_S1x683x128_S1x683x128_0_0_0)) $$ H6
  iintro H6
  iapply (wp_store_owns c arg6 C (Rect.unit (s := S1x683x128) ![0, 0, 0] S1x683x128.size inb_S1x683x128_S1x683x128_0_0_0)) $$ H6
  iintro H6
  rw [show (Rect.unit (s := S1x683x128) ![0, 0, 0] S1x683x128.size inb_S1x683x128_S1x683x128_0_0_0).overlay C (shapeCast S1x683x128 (View.ld S'.hc (Rect.unit (s := S704x128) ![0, 0] S683x128.size inb_S704x128_S683x128_0_0) : Vec F S683x128 .fp8e4m3) shapeCasts_S683x128_S1x683x128) = outCod S' from overlay_whole _ (by decide) _ _ _ (fun y => by rw [Rect.emb_unit_full]; rfl)]
  iapply (show Q ⟨⟩ ⊢ kwp c (.ret ⟨⟩) Q from by unfold kwp; rw [wp_ret]; exact fupd_intro)
  iapply Hk
  isplitl [H2]; · iexact H2
  isplitl [H6]; · iexact H6
  isplitl [H3]; · iexact H3
  isplitl [H4]; · iexact H4
  isplitl [H5]; · iexact H5
  isplitl [H7]; · iexact H7
  isplitl [H8]; · iexact H8
  isplitl [H9]; · iexact H9
  iexact H10
end Steps

end Cert.KernelIdeal.Body

end
-- ==== Proof.RunBase.lean ====
/- The launch of the kernel, at any float values: from a claim about what one grid point does to the buffers
   (`Step`), what every final state's result arrays hold. -/
module

public import proofs.«01_k».proof.Proof.Triple
public import proofs.«01_k».proof.Proof.Gen.KernelIdeal.Launch
public import Idealize.ShloMosaic.Lib.Pipeline.Frame
public import Idealize.ShloMosaic.Lib.Pipeline.ArrRel

@[expose] public section

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat RDat Cfg Window cellOf)
open Cert.KernelIdeal Cert.KernelIdeal.Body Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The table's contents at launch, as the pipeline takes them. -/
def adm : (pcfg0 (F := F)).Adm := ⟨fun k => m ((((0 : Dev nD)) : Thread nD τ).loc (pre0.ref k)), trivial⟩

/-- The pipeline at the launch's table. -/
abbrev cfgA : Cfg sig Λ₀ := cfg0 (adm m)

/-- The arrays as the region finds them: as launched. -/
abbrev V (c : Dev nD) (b : Ref sig .tc) : Buf (Elt F) ((c : Thread nD τ).loc b) := m ((c : Thread nD τ).loc b)

/-- The table of the sizes. -/
def tbl : Vec F S24 .i32 := (adm m).1 0

/-- A window's block at a point, read off its array as launched. -/
def iblk (c : Dev nD) (w : Fin (cfgA m).W) (t : Fin (cfgA m).N) : (((cfgA m).win w).xblock ((cfgA m).grid.coords t)).Idx → Elt F ((cfgA m).win w).elt :=
  (((cfgA m).win w).blk t).view.read (Elt F) (V m c (Pipeline.arrRef spec0 w))

/-- The activations' block at a point. -/
def xb (c : Dev nD) (t : Fin grid0.N) : Vec F S1x683x3584 .bf16 := iblk m c (0 : Fin 5) t
/-- The weights' block at a point. -/
def wb (c : Dev nD) (t : Fin grid0.N) : Vec F S1x2x128x3584 .fp8e4m3 := iblk m c (1 : Fin 5) t
/-- The weight scales' block at a point. -/
def sb (c : Dev nD) (t : Fin grid0.N) : Vec F S1x2x17x28 .f32 := iblk m c (2 : Fin 5) t

/-- The buffers after a point's work, from its blocks. -/
def pt (c : Dev nD) (t : Fin grid0.N) (S : St F) : St F :=
  dG0 (grid0.coords t) (xb m c t) (wb m c t) (sb m c t) (tblAt (grid0.coords t) (tbl m)) S

/-- What is claimed of a run: of the codes a point leaves (`P3`), of the scales a point leaves (`P4`), of the quantised
    activations before a point (`PX`); each point's work keeps it. -/
structure Step (c : Dev nD) where
  P3 : Fin grid0.N → Vec F S1x683x128 .fp8e4m3 → Prop
  P4 : Fin grid0.N → Vec F S1x683x17 .f32 → Prop
  PX : Nat → Vec F S704x3584 .bf16 → Prop
  start : ∀ X, PX 0 X
  step : ∀ (t : Fin grid0.N) (S : St F), PX t.val S.xq →
    (∀ h : t.val % 17 ≠ 0, P4 ⟨t.val - 1, Nat.lt_of_le_of_lt (Nat.sub_le _ _) t.isLt⟩ S.scl) →
    PX (t.val + 1) (pt m c t S).xq ∧ P4 t (pt m c t S).scl ∧ P3 t (outCod (pt m c t S))

variable {m}
variable (st : (c : Dev nD) → Step m c)

/-- The claim's data for the pipeline's rule. -/
def rdat (c : Dev nD) : RDat τ (Elt F) Unit ℕ (UR sig nD τ) ℕ (cfgA m) c where
  A w := V m c (Pipeline.arrRef spec0 w)
  after w t Y X := match w with
    | ⟨0, _⟩ => X = Y
    | ⟨1, _⟩ => X = Y
    | ⟨2, _⟩ => X = Y
    | ⟨3, _⟩ => (st c).P3 t X
    | ⟨4, _⟩ => (st c).P4 t X
  Φ t := iprop((∃ r, prngReg c r) ∗ owns (c : Thread nD τ) (Memref.whole main_arg1) fullShare.right (tbl m)
    ∗ ∃ xq, ⌜(st c).PX t.val xq⌝ ∗ ∃ wq, ∃ hc, owns (c : Thread nD τ) (Memref.whole cc0_scratch0) fullShare xq
      ∗ owns (c : Thread nD τ) (Memref.whole cc0_scratch1) fullShare wq ∗ owns (c : Thread nD τ) (Memref.whole cc0_scratch2) fullShare hc)
  q _ := fullShare
  owed _ := 0

/-- Operand 0's block stays as it was found. -/
theorem after0 (c : Dev nD) (t : Fin (cfgA m).N) (Y X) : (rdat st c).after (0 : Fin 5) t Y X = (X = Y) := rfl
/-- Operand 1's block stays as it was found. -/
theorem after1 (c : Dev nD) (t : Fin (cfgA m).N) (Y X) : (rdat st c).after (1 : Fin 5) t Y X = (X = Y) := rfl
/-- Operand 2's block stays as it was found. -/
theorem after2 (c : Dev nD) (t : Fin (cfgA m).N) (Y X) : (rdat st c).after (2 : Fin 5) t Y X = (X = Y) := rfl
/-- The codes' block after a point is as the step claims. -/
theorem after3 (c : Dev nD) (t : Fin (cfgA m).N) (Y X) : (rdat st c).after (3 : Fin 5) t Y X = (st c).P3 t X := rfl
/-- The scales' block after a point is as the step claims. -/
theorem after4 (c : Dev nD) (t : Fin (cfgA m).N) (Y X) : (rdat st c).after (4 : Fin 5) t Y X = (st c).P4 t X := rfl
/-- The operands' arrays hold the launch's contents. -/
theorem A_eq (c : Dev nD) (w : Fin (cfgA m).W) : (rdat st c).A w = V m c (Pipeline.arrRef spec0 w) := by dsimp only [rdat]

/-- An input's buffer holds its block at every point. -/
theorem finds0 (c : Dev nD) (t : Fin (cfgA m).N) (Y) (h : (rdat st c).Finds (0 : Fin 5) t Y) : Y = iblk m c (0 : Fin 5) t := by
  obtain ⟨d, hd⟩ := (rdat st c).finds_in_eq_fetched (0 : Fin 5) rfl (fun _ _ _ => rfl) (fun t Y X h => by rw [after0] at h; exact h) t Y h
  rw [hd]; unfold RDat.fetched RDat.blockOf iblk; rw [A_eq]; try rfl
/-- A point finds operand 1's own block. -/
theorem finds1 (c : Dev nD) (t : Fin (cfgA m).N) (Y) (h : (rdat st c).Finds (1 : Fin 5) t Y) : Y = iblk m c (1 : Fin 5) t := by
  obtain ⟨d, hd⟩ := (rdat st c).finds_in_eq_fetched (1 : Fin 5) rfl (fun _ _ _ => rfl) (fun t Y X h => by rw [after1] at h; exact h) t Y h
  rw [hd]; unfold RDat.fetched RDat.blockOf iblk; rw [A_eq]; try rfl
/-- A point finds operand 2's own block. -/
theorem finds2 (c : Dev nD) (t : Fin (cfgA m).N) (Y) (h : (rdat st c).Finds (2 : Fin 5) t Y) : Y = iblk m c (2 : Fin 5) t := by
  obtain ⟨d, hd⟩ := (rdat st c).finds_in_eq_fetched (2 : Fin 5) rfl (fun _ _ _ => rfl) (fun t Y X h => by rw [after2] at h; exact h) t Y h
  rw [hd]; unfold RDat.fetched RDat.blockOf iblk; rw [A_eq]; try rfl

/-- A point's expert coordinate. -/
theorem coords0 (t : Fin grid0.N) : (grid0.coords t 0).val = t.val / 17 := by
  have := t.isLt
  have hN : grid0.N = 408 := N_0
  show t.val / 17 % 24 = t.val / 17
  omega
/-- A point's block coordinate. -/
theorem coords1 (t : Fin grid0.N) : (grid0.coords t 1).val = t.val % 17 := by
  show t.val / 1 % 17 = t.val % 17
  omega

/-- Two points of one expert have one scales' block. -/
theorem index4 (t u : Fin grid0.N) (h : t.val / 17 = u.val / 17) : ((cfgA m).win (4 : Fin 5)).index t = ((cfgA m).win (4 : Fin 5)).index u := by
  show cc0_transform_4 (grid0.coords t) = cc0_transform_4 (grid0.coords u)
  unfold cc0_transform_4
  rw [coords0, coords0, h]

/-- The scales' block is not written back before an expert's last point. -/
theorem flush4 (t : Fin (cfgA m).N) (h : t.val % 17 ≠ 16) : ((cfgA m).win (4 : Fin 5)).flush t = false := by
  have hN : grid0.N = 408 := N_0
  have ht : t.val < 408 := by rw [← hN]; exact t.isLt
  unfold Window.flush
  rw [Bool.and_eq_false_iff]; right
  rw [Bool.or_eq_false_iff]
  refine ⟨by simp only [decide_eq_false_iff_not]; show ¬ (t.val + 1 = grid0.N); omega, ?_⟩
  simp only [decide_eq_false_iff_not, not_exists, not_not]
  intro h'
  exact index4 _ _ (by show (t.val + 1) / 17 = t.val / 17; omega)

/-- At an expert's later point the scales' buffer is as the point before left it. -/
theorem finds4 (c : Dev nD) (t : Fin (cfgA m).N) (Y) (h : (rdat st c).Finds (4 : Fin 5) t Y) (h0 : t.val % 17 ≠ 0) :
    (st c).P4 ⟨t.val - 1, Nat.lt_of_le_of_lt (Nat.sub_le _ _) t.isLt⟩ Y := by
  rcases ((rdat st c).finds_of_pos (w := (4 : Fin 5)) (t := t) rfl (by omega) Y).mp h with hf | ⟨Z, -, hZ⟩
  · rw [flush4 _ (by show (t.val - 1) % 17 ≠ 16; omega)] at hf; exact absurd hf Bool.false_ne_true
  · rw [after4] at hZ; exact hZ

/-- The body at a point, spelt out. -/
abbrev bodyAt (t : Fin (cfgA m).N) : KProg F PUnit :=
  cc0_swiglu (F := F) (grid0.coords t) (Memref.whole main_arg1) (Memref.isWhole_whole _) (spec0_0.stage ((cfgA m).slots t (0 : Fin 5))) (hstage0_0 (((cfgA m).slots t (0 : Fin 5)).cast nbuf0_0)) (spec0_1.stage ((cfgA m).slots t (1 : Fin 5))) (hstage0_1 (((cfgA m).slots t (1 : Fin 5)).cast nbuf0_1)) (spec0_2.stage ((cfgA m).slots t (2 : Fin 5))) (hstage0_2 (((cfgA m).slots t (2 : Fin 5)).cast nbuf0_2)) (spec0_3.stage ((cfgA m).slots t (3 : Fin 5))) (hstage0_3 (((cfgA m).slots t (3 : Fin 5)).cast nbuf0_3)) (spec0_4.stage ((cfgA m).slots t (4 : Fin 5))) (hstage0_4 (((cfgA m).slots t (4 : Fin 5)).cast nbuf0_4)) (Memref.whole cc0_scratch0) (Memref.isWhole_whole _) (Memref.whole cc0_scratch1) (Memref.isWhole_whole _) (Memref.whole cc0_scratch2) (Memref.isWhole_whole _)

/-- The body called at a point is the kernel's at the point's coordinates. -/
theorem defs₀_row (t : Fin (cfgA m).N) :
    defs₀ (F := F) .tc (cfgA m).body ((cfgA m).bodyArgs t ((cfgA m).slots t)) = bodyAt t := by
  unfold defs₀; rw [Defs.onTc_tc]

/-- What holds between points, spelled out. -/
theorem Phi_eq (c : Dev nD) (t : Fin ((cfgA m).N + 1)) : (rdat st c).Φ t = iprop((∃ r, prngReg c r) ∗ owns (c : Thread nD τ) (Memref.whole main_arg1) fullShare.right (tbl m)
    ∗ ∃ xq, ⌜(st c).PX t.val xq⌝ ∗ ∃ wq, ∃ hc, owns (c : Thread nD τ) (Memref.whole cc0_scratch0) fullShare xq
      ∗ owns (c : Thread nD τ) (Memref.whole cc0_scratch1) fullShare wq ∗ owns (c : Thread nD τ) (Memref.whole cc0_scratch2) fullShare hc) := rfl

/-- The body's claim at a point, over any buffers. -/
theorem sound_gen (c : Dev nD) (t : Fin grid0.N) (R O : sProp 𝕄)
    (arg2 : Memref sig .tc .smem S24 .i32) (harg2 : arg2.IsWhole) (arg3 : Memref sig .tc .vmem S1x683x3584 .bf16) (harg3 : arg3.IsWhole)
    (arg4 : Memref sig .tc .vmem S1x2x128x3584 .fp8e4m3) (harg4 : arg4.IsWhole) (arg5 : Memref sig .tc .smem S1x2x17x28 .f32) (harg5 : arg5.IsWhole)
    (arg6 : Memref sig .tc .vmem S1x683x128 .fp8e4m3) (harg6 : arg6.IsWhole) (arg7 : Memref sig .tc .vmem S1x683x17 .f32) (harg7 : arg7.IsWhole)
    (arg8 : Memref sig .tc .vmem S704x3584 .bf16) (harg8 : arg8.IsWhole) (arg9 : Memref sig .tc .vmem S256x3584 .bf16) (harg9 : arg9.IsWhole)
    (arg10 : Memref sig .tc .vmem S704x128 .fp8e4m3) (harg10 : arg10.IsWhole)
    (Y3 : Vec F S1x683x128 .fp8e4m3) (Y4 : Vec F S1x683x17 .f32)
    (h4 : ∀ h : t.val % 17 ≠ 0, (st c).P4 ⟨t.val - 1, Nat.lt_of_le_of_lt (Nat.sub_le _ _) t.isLt⟩ Y4) :
    iprop((R ∗ owns (c : Thread nD τ) arg2 fullShare.right (tbl m)
          ∗ ∃ xq, ⌜(st c).PX t.val xq⌝ ∗ ∃ wq, ∃ hc, owns (c : Thread nD τ) arg8 fullShare xq
            ∗ owns (c : Thread nD τ) arg9 fullShare wq ∗ owns (c : Thread nD τ) arg10 fullShare hc)
        ∗ O
        ∗ owns (c : Thread nD τ) arg3 fullShare (xb m c t) ∗ owns (c : Thread nD τ) arg4 fullShare (wb m c t)
        ∗ owns (c : Thread nD τ) arg5 fullShare (sb m c t) ∗ owns (c : Thread nD τ) arg6 fullShare Y3
        ∗ owns (c : Thread nD τ) arg7 fullShare Y4)
      ⊢ kwp c (cc0_swiglu (F := F) (grid0.coords t) arg2 harg2 arg3 harg3 arg4 harg4 arg5 harg5 arg6 harg6 arg7 harg7 arg8 harg8 arg9 harg9 arg10 harg10) fun _ =>
        iprop((R ∗ owns (c : Thread nD τ) arg2 fullShare.right (tbl m)
          ∗ ∃ xq, ⌜(st c).PX (t.val + 1) xq⌝ ∗ ∃ wq, ∃ hc, owns (c : Thread nD τ) arg8 fullShare xq
            ∗ owns (c : Thread nD τ) arg9 fullShare wq ∗ owns (c : Thread nD τ) arg10 fullShare hc)
        ∗ O
        ∗ (∃ X, ⌜X = xb m c t⌝ ∗ owns (c : Thread nD τ) arg3 fullShare X)
        ∗ (∃ X, ⌜X = wb m c t⌝ ∗ owns (c : Thread nD τ) arg4 fullShare X)
        ∗ (∃ X, ⌜X = sb m c t⌝ ∗ owns (c : Thread nD τ) arg5 fullShare X)
        ∗ (∃ X, ⌜(st c).P3 t X⌝ ∗ owns (c : Thread nD τ) arg6 fullShare X)
        ∗ (∃ X, ⌜(st c).P4 t X⌝ ∗ owns (c : Thread nD τ) arg7 fullShare X)) := by
  iintro ⟨⟨Hr, Ht, %xq, %hxq, %wq, %hc, Hx, Hw, Hh⟩, Ho, H0, H1, H2, H3, H4⟩
  obtain ⟨hX', h4', h3'⟩ := (st c).step t ⟨Y4, xq, wq, hc⟩ hxq h4
  iapply (wp_body c (grid0.coords t) arg2 harg2 arg3 harg3 arg4 harg4 arg5 harg5 arg6 harg6 arg7 harg7 arg8 harg8 arg9 harg9 arg10 harg10
    (xb m c t) (wb m c t) (sb m c t) fullShare.right (tbl m) ⟨Y4, xq, wq, hc⟩ Y3) $$ [Ht H3 H0 H1 H2 H4 Hx Hw Hh]
  · unfold Own
    isplitl [Ht]; · iexact Ht
    isplitl [H3]; · iexact H3
    isplitl [H0]; · iexact H0
    isplitl [H1]; · iexact H1
    isplitl [H2]; · iexact H2
    isplitl [H4]; · iexact H4
    isplitl [Hx]; · iexact Hx
    isplitl [Hw]; · iexact Hw
    iexact Hh
  unfold Own
  rw [show dG0 (grid0.coords t) (xb m c t) (wb m c t) (sb m c t) (tblAt (grid0.coords t) (tbl m)) ⟨Y4, xq, wq, hc⟩ = pt m c t ⟨Y4, xq, wq, hc⟩ from rfl]
  generalize pt m c t ⟨Y4, xq, wq, hc⟩ = S' at hX' h4' h3' ⊢
  iintro ⟨Ht, H3, H0, H1, H2, H4, Hx, Hw, Hh⟩
  isplitl [Hr Ht Hx Hw Hh]
  · isplitl [Hr]; · iexact Hr
    isplitl [Ht]; · iexact Ht
    iexists S'.xq
    isplitr; · ipureintro; exact hX'
    iexists S'.wq; iexists S'.hc
    isplitl [Hx]; · iexact Hx
    isplitl [Hw]; · iexact Hw
    iexact Hh
  isplitl [Ho]; · iexact Ho
  isplitl [H0]; · iexists (xb m c t); isplitr; swap; (· iexact H0); ipureintro; rfl
  isplitl [H1]; · iexists (wb m c t); isplitr; swap; (· iexact H1); ipureintro; rfl
  isplitl [H2]; · iexists (sb m c t); isplitr; swap; (· iexact H2); ipureintro; rfl
  isplitl [H3]; · iexists (outCod S'); isplitr; swap; (· iexact H3); ipureintro; exact h3'
  iexists S'.scl; isplitr; swap; (· iexact H4); ipureintro; exact h4'

end Cert.KernelIdeal.Run

end
-- ==== Proof.Run.lean ====
/- The launch's last steps: the obligation, the run and the frame claim. -/
module

public import proofs.«01_k».proof.Proof.RunBase
public import proofs.«01_k».proof.Proof.Gen.KernelIdeal.Launch
public import Idealize.ShloMosaic.Lib.Pipeline.Frame
public import Idealize.ShloMosaic.Lib.Pipeline.ArrRel

@[expose] public section

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat RDat Cfg Window cellOf)
open Cert.KernelIdeal Cert.KernelIdeal.Body Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

variable {m}
variable (st : (c : Dev nD) → Step m c)

/-- The pipeline's rule's obligation. -/
theorem body_obligation (c : Dev nD) : (rdat st c).BodyObligation (defs₀ (F := F)) Variants.none () Set.univ := fun t Y hY => by
  rw [bigSep_W0, bigSep_W0, defs₀_row]
  have h0 := finds0 st c t _ (hY (0 : Fin 5))
  have h1 := finds1 st c t _ (hY (1 : Fin 5))
  have h2 := finds2 st c t _ (hY (2 : Fin 5))
  have h4 := finds4 st c t _ (hY (4 : Fin 5))
  rw [h0, h1, h2]
  generalize Y (3 : Fin 5) = Y3
  generalize Y (4 : Fin 5) = Y4 at h4 ⊢
  have hs := sound_gen st c t (iprop(∃ r, prngReg c r)) ((rdat st c).owesAt () t.castSucc) (Memref.whole main_arg1) (Memref.isWhole_whole _) (spec0_0.stage ((cfgA m).slots t (0 : Fin 5))) (hstage0_0 (((cfgA m).slots t (0 : Fin 5)).cast nbuf0_0)) (spec0_1.stage ((cfgA m).slots t (1 : Fin 5))) (hstage0_1 (((cfgA m).slots t (1 : Fin 5)).cast nbuf0_1)) (spec0_2.stage ((cfgA m).slots t (2 : Fin 5))) (hstage0_2 (((cfgA m).slots t (2 : Fin 5)).cast nbuf0_2)) (spec0_3.stage ((cfgA m).slots t (3 : Fin 5))) (hstage0_3 (((cfgA m).slots t (3 : Fin 5)).cast nbuf0_3)) (spec0_4.stage ((cfgA m).slots t (4 : Fin 5))) (hstage0_4 (((cfgA m).slots t (4 : Fin 5)).cast nbuf0_4)) (Memref.whole cc0_scratch0) (Memref.isWhole_whole _) (Memref.whole cc0_scratch1) (Memref.isWhole_whole _) (Memref.whole cc0_scratch2) (Memref.isWhole_whole _) Y3 Y4 h4
  refine triple_restated hs rfl ?_ (fun _ => .rfl)
  refine BIClass.sep_mono ?_ ?_
  · rw [Phi_eq st c t.castSucc, Fin.val_castSucc]; exact .rfl
  refine BIClass.sep_mono .rfl ?_
  refine BIClass.sep_mono .rfl (BIClass.sep_mono .rfl (BIClass.sep_mono .rfl (BIClass.sep_mono .rfl .rfl)))

/-- The invariant at the first point. -/
theorem phi_in (c : Dev nD) : iprop(Pipeline.ΦA spec0 c ∗ Pipeline.ΦT pre0 (adm m).1 c) ⊢ (rdat st c).Φ 0 := by
  dsimp only [rdat]
  unfold Pipeline.ΦA Pipeline.ΦT Pipeline.prefHeld
  rw [scopedRest0_eq, show (bigSep Finset.univ fun k : Fin 1 => (((c : Thread nD τ).loc (pre0.ref k)) ↦{fullShare.right} (adm m).1 k : sProp 𝕄))
      = (((c : Thread nD τ).loc main_arg1) ↦{fullShare.right} tbl m : sProp 𝕄) from
      bigSep_univ_eq_bigSepL [(0 : Fin 1)] (by decide) (by decide) _]
  simp only [owns_whole]
  iintro ⟨⟨⟨⟨%f0, H0⟩, ⟨%f1, H1⟩, ⟨%f2, H2⟩⟩, Hr⟩, Ht⟩
  isplitl [Hr]; · iexact Hr
  isplitl [Ht]; · iexact Ht
  iexists f0; isplitr; · ipureintro; exact (st c).start f0
  iexists f1; iexists f2
  isplitl [H0]; · iexact H0
  isplitl [H1]; · iexact H1
  iexact H2

/-- The invariant at the end gives the scratch back. -/
theorem phi_out (c : Dev nD) : (rdat st c).Φ (Fin.last (cfgA m).N) ⊢ Pipeline.ΦA spec0 c := by
  dsimp only [rdat]
  unfold Pipeline.ΦA
  rw [scopedRest0_eq]
  simp only [owns_whole]
  iintro ⟨Hr, Ht, %xq, %hxq, %wq, %hc, Hx, Hw, Hh⟩
  isplitr [Hr]; swap; · iexact Hr
  isplitl [Hx]; · iexists _; iexact Hx
  isplitl [Hw]; · iexists _; iexact Hw
  iexists _; iexact Hh

/-- `@main` is the region alone. -/
theorem hmain : Pipeline.HMainP (Ix := Unit) (Name := ℕ) (U := UR sig nD τ) (Lvl := ℕ) pcfgs 0 defs₀ Variants.none m (main (F := F)) (V m) :=
  Pipeline.hmainP_region pcfgs 0 defs₀ Variants.none m main fun _ => rfl

set_option backward.isDefEq.respectTransparency.types false in
set_option maxHeartbeats 800000 in
/-- The run: every final state's arrays hold what the claim says they may, and every counter is zero. -/
theorem run_main : θ_run defs (onTc (τ := τ) (main (F := F))) (s₀ m ρ)
    (fun r => RDat.FramePost (cfgA m) (rdat st) (V m) r ∧ r.2.sem = fun _ => 0) :=
  RDat.θ_run_frameP_track (Q' := _) pcfgs (fun _ => adm m) (0 : Fin 1) launch0 defs₀ Variants.none (rdat st) m ρ main
    (hbody := body_obligation st) (hshare := fun c w => by unfold RDat.share; split <;> rfl)
    (howed := fun _ _ => rfl) (V := V m) (hmain := hmain) (hA := A_eq st)
    (hpf := fun c k => by obtain rfl : c = 0 := Subsingleton.elim _ _; rfl)
    (hin := phi_in st) (hout := phi_out st)

/-- The sizes' argument is none of the launch's block arrays. -/
theorem arg1_rest : main_arg1 ∈ Pipeline.restRefs sig spec0 := Pipeline.mem_restRefs_of main_arg1 (by decide) (by decide)

/-- An input's array ends as launched. -/
theorem inEnd (c : Dev nD) (w : Fin (cfgA m).W) (hw : ((cfgA m).win w).isOut = false) (f) (h : (rdat st c).ArrAt w (cfgA m).N f) :
    f = V m c (Pipeline.arrRef spec0 w) := by
  rw [(rdat st c).ArrAt_in w hw] at h
  exact h.trans (A_eq st c w)

/-- A window's input array ends as launched. -/
theorem kept_in (r : PUnit × MemSt nD τ sig (Elt F)) (h : RDat.FramePost (cfgA m) (rdat st) (V m) r) (c : Dev nD) (w : Fin (cfgA m).W)
    (hw : ((cfgA m).win w).isOut = false) : r.2.mem ((c : Thread nD τ).loc (Pipeline.arrRef (cfgA m).spec w)) = V m c (Pipeline.arrRef spec0 w) :=
  inEnd st c w hw _ ((h c).1 w)
/-- The inputs' windows are no outputs. -/
theorem isOut0 : ((cfgA m).win (0 : Fin 5)).isOut = false := rfl
/-- Operand 1 is read only. -/
theorem isOut1 : ((cfgA m).win (1 : Fin 5)).isOut = false := rfl
/-- Operand 2 is read only. -/
theorem isOut2 : ((cfgA m).win (2 : Fin 5)).isOut = false := rfl

/-- The activations end as launched. -/
theorem kept0 (r : PUnit × MemSt nD τ sig (Elt F)) (h : RDat.FramePost (cfgA m) (rdat st) (V m) r) (c : Dev nD) :
    r.2.mem ((c : Thread nD τ).loc main_arg0) = m ((c : Thread nD τ).loc main_arg0) :=
  kept_in st r h c (0 : Fin 5) isOut0
/-- The sizes end as launched. -/
theorem kept1 (r : PUnit × MemSt nD τ sig (Elt F)) (h : RDat.FramePost (cfgA m) (rdat st) (V m) r) (c : Dev nD) :
    r.2.mem ((c : Thread nD τ).loc main_arg1) = m ((c : Thread nD τ).loc main_arg1) :=
  (h c).2 main_arg1 arg1_rest
/-- The weights end as launched. -/
theorem kept2 (r : PUnit × MemSt nD τ sig (Elt F)) (h : RDat.FramePost (cfgA m) (rdat st) (V m) r) (c : Dev nD) :
    r.2.mem ((c : Thread nD τ).loc main_arg2) = m ((c : Thread nD τ).loc main_arg2) :=
  kept_in st r h c (1 : Fin 5) isOut1
/-- The weights' scales end as launched. -/
theorem kept3 (r : PUnit × MemSt nD τ sig (Elt F)) (h : RDat.FramePost (cfgA m) (rdat st) (V m) r) (c : Dev nD) :
    r.2.mem ((c : Thread nD τ).loc main_arg3) = m ((c : Thread nD τ).loc main_arg3) :=
  kept_in st r h c (2 : Fin 5) isOut2

/-- The claim that says nothing. -/
def stTrue (m : (ℓ : Loc nD τ sig) → Buf (Elt F) ℓ) (c : Dev nD) : Step m c where
  P3 _ _ := True
  P4 _ _ := True
  PX _ _ := True
  start _ := trivial
  step _ _ _ _ := ⟨trivial, trivial, trivial⟩

/-- The frame claim, at any float values. -/
theorem frame (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun r h => ⟨fun c => ⟨kept0 (stTrue m) r h.1 c, kept1 (stTrue m) r h.1 c, kept2 (stTrue m) r h.1 c, kept3 (stTrue m) r h.1 c⟩, h.2⟩)
    (run_main ρ (stTrue m))

end Cert.KernelIdeal.Run

end
-- ==== Proof.FrameK.lean ====
/- The kernel's frame claim at floats given as bits: the idealization is its own text, so the run proved at any float
   values is the kernel's. -/
module

public import proofs.«01_k».proof.Defs
public import proofs.«01_k».proof.Proof.Gen.Kernel
public import proofs.«01_k».proof.Proof.Run

@[expose] public section

set_option maxRecDepth 65536

noncomputable section

namespace Cert.FrameK

open Idealize.ShloMosaic Idealize.ShloMosaic.TcCoe Idealize.ShloMosaic.Tactic Idealize.SL.Sem

/-- The two programs' definitions and bodies are one text. -/
theorem defs_eq : Cert.Kernel.defs (F := Bits) = Cert.KernelIdeal.defs (F := Bits) := by chain_rfl
/-- At bits, the kernel and its idealization are the same program. -/
theorem main_eq : Cert.Kernel.main (F := Bits) = Cert.KernelIdeal.main (F := Bits) := by chain_rfl

/-- The idealized kernel's frame claim. -/
theorem frameKI : Cert.quiescent_KernelIdeal := fun m g _ => Cert.KernelIdeal.Run.frame m g

/-- The kernel's frame claim. -/
theorem frameK : Cert.quiescent_Kernel := fun m g _ => by
  rw [defs_eq, main_eq]
  exact Cert.KernelIdeal.Run.frame (F := Bits) m g

end Cert.FrameK

end
-- ==== Proof.Scale.lean ====
/- A group's scale, two ways: the kernel's, from a table of exponent fields, and the reference's, from the floor of a
   logarithm; the two are equal at every value. -/
module

public import Idealize.ShloMosaic.PureOps
public import Idealize.ShloMosaic.Lib.IdealHost
public import Mathlib.Analysis.SpecialFunctions.Pow.Real

@[expose] public section

noncomputable section

namespace Cert.Val

open Idealize.ShloMosaic

/-- Word `n` shifted to a float's exponent place. -/
def field (n : Nat) : BitVec 32 := BitVec.ofNat 32 (n * 8388608)

/-- A float of exponent field `n` and zero significand is a power of two. -/
theorem ofBits_field (n : Nat) (h1 : 1 ≤ n) (h2 : n ≤ 254) :
    Ideal.ofBits .f32 (field n) = (((2 : ℝ) ^ ((n : ℤ) - 127) : ℝ) : EReal) := by
  have hb : (field n).toNat = n * 8388608 := by
    simp only [field, BitVec.toNat_ofNat]; omega
  have e1 : ((field n).extractLsb' 23 8).toNat = n := by
    rw [BitVec.extractLsb'_toNat, hb, Nat.shiftRight_eq_div_pow]; omega
  have e2 : ((field n).extractLsb' 0 23).toNat = 0 := by
    rw [BitVec.extractLsb'_toNat, hb, Nat.shiftRight_eq_div_pow]; omega
  have e3 : ((field n).extractLsb' 31 1 == 1#1) = false := by
    rw [beq_eq_false_iff_ne]
    intro h
    have := congrArg BitVec.toNat h
    rw [BitVec.extractLsb'_toNat, hb, Nat.shiftRight_eq_div_pow] at this
    simp at this; omega
  simp only [Ideal.ofBits, Ideal.ieee, e1, e2, e3]
  rw [if_neg (by omega), if_neg (by omega)]
  congr 1
  simp only [Bool.false_eq_true, if_false, one_mul]
  norm_num
  rw [show (8388608 : ℝ) = (2:ℝ) ^ (23 : ℤ) by norm_num, ← zpow_add₀ (by norm_num)]
  congr 1; ring

/-- The bits of infinity stand for the top element. -/
theorem ofBits_top : Ideal.ofBits .f32 0x7F800000#32 = ⊤ := by
  simp [Ideal.ofBits, Ideal.ieee]

/-- The bits of minus infinity stand for the bottom element. -/
theorem ofBits_bot : Ideal.ofBits .f32 0xFF800000#32 = ⊥ := by
  simp [Ideal.ofBits, Ideal.ieee]

/-- The bits of minus zero stand for zero. -/
theorem ofBits_negzero : Ideal.ofBits .f32 0x80000000#32 = 0 := by
  simp [Ideal.ofBits, Ideal.ieee]

/-- The bits of 126. -/
theorem ofBits_126 : Ideal.ofBits .f32 0x42FC0000#32 = ((126 : ℝ) : EReal) := by
  simp [Ideal.ofBits, Ideal.ieee, -EReal.coe_mul]; norm_num

/-- The bits of 2. -/
theorem ofBits_two : Ideal.ofBits .f32 0x40000000#32 = ((2 : ℝ) : EReal) := by
  simp [Ideal.ofBits, Ideal.ieee, -EReal.coe_mul]; norm_num

/-- The reference's exponent: the floor of the base-2 logarithm, plus one, at most 126. -/
def rE (v : EReal) : EReal :=
  min (Ideal.liftRound Int.floor (Ideal.div (Ideal.log v) (Ideal.log (Ideal.ofBits .f32 0x40000000#32))) + Ideal.ofBits .f32 0x3F800000#32) (Ideal.ofBits .f32 0x42FC0000#32)

/-- The reference's scale of a group whose scaled maximum is `v`: one below the least normal float, zero at infinity,
    a power of two between. -/
def rS (v : EReal) : EReal :=
  if v < Ideal.ofBits .f32 0x00800000#32 then 1 else if v = ⊤ then 0 else Ideal.exp2 (rE v)

/-- The reference's inverse scale of a group whose scaled maximum is `v`: one below the least normal float, -2^127 at
    infinity, a power of two between. -/
def rI (v : EReal) : EReal :=
  if v < Ideal.ofBits .f32 0x00800000#32 then 1 else if v = ⊤ then Ideal.ofBits .f32 0xFF000000#32 else Ideal.exp2 (0 - rE v)

/-- Lane `x`'s field word in the kernel. -/
def laneW (x : Nat) : BitVec 32 :=
  IntOp.shli ArithUnit.vector
    (Scalar.select (IntOp.cmpi CmpIPredicate.slt (BitVec.ofNat 32 x) 253#32) (BitVec.ofNat 32 x) 255#32) 23#32

/-- The kernel's exponent field of `v`: the largest lane word whose float is at most `v`. -/
def kE (v : EReal) {n : Nat} (_ : n = 256) : BitVec 32 := Finset.fold IntOp.maxsi (2147483648#32)
      (fun x : Fin n => if v < Ideal.ofBits FTy.f32 (laneW x) then 0#32 else laneW x) Finset.univ

/-- The kernel's scale from an exponent field. -/
def kS (e : BitVec 32) : EReal := Scalar.select (IntOp.cmpi CmpIPredicate.eq e 0#32) 1 (Ideal.ofBits FTy.f32 (IntOp.addi e 8388608#32))
/-- The kernel's inverse scale from an exponent field. -/
def kI (e : BitVec 32) : EReal := Scalar.select (IntOp.cmpi CmpIPredicate.eq e 0#32) 1 (Ideal.ofBits FTy.f32 (IntOp.subi (2122317824#32) e))

/-- Below lane 253 the table holds the lane's own field. -/
theorem laneW_lo (x : Nat) (h : x < 253) : laneW x = field x := by
  revert h; revert x
  have : ∀ x : Fin 253, laneW x = field x := by decide +kernel
  intro x h; exact this ⟨x, h⟩

/-- From lane 253 on the table holds field 255. -/
theorem laneW_hi (x : Nat) (h : 253 ≤ x) (h' : x < 256) : laneW x = field 255 := by
  obtain rfl | rfl | rfl : x = 253 ∨ x = 254 ∨ x = 255 := by omega
  all_goals decide +kernel

/-- The signed maximum of words reads as the maximum. -/
theorem maxsi_toInt (a b : BitVec 32) : (IntOp.maxsi a b).toInt = max a.toInt b.toInt := by
  unfold IntOp.maxsi
  rw [BitVec.slt_eq_decide]
  by_cases h : b.toInt < a.toInt
  · simp [h, max_eq_left h.le]
  · simp [h, max_eq_right (not_lt.1 h)]

/-- A word that bounds every lane's choice and is reached by one is the exponent field. -/
theorem kE_eq (v : EReal) {n : Nat} (h : n = 256) (B : BitVec 32) (hB : 0 ≤ B.toInt)
    (hle : ∀ x : Nat, x < 256 → (if v < Ideal.ofBits FTy.f32 (laneW x) then 0#32 else laneW x).toInt ≤ B.toInt)
    (hex : ∃ x : Nat, x < 256 ∧ (if v < Ideal.ofBits FTy.f32 (laneW x) then 0#32 else laneW x) = B) : kE v h = B := by
  subst h
  apply BitVec.eq_of_toInt_eq
  unfold kE
  rw [← Finset.fold_hom (op' := max) (m := BitVec.toInt) maxsi_toInt]
  apply le_antisymm
  · rw [Finset.fold_max_le]
    exact ⟨le_trans (by decide) hB, fun x _ => hle x x.2⟩
  · obtain ⟨x, hx, e⟩ := hex
    rw [Finset.le_fold_max]
    exact Or.inr ⟨⟨x, hx⟩, Finset.mem_univ _, by rw [← e]⟩

/-- An exponent field reads as its number times 2^23. -/
theorem field_toInt (n : Nat) (h : n < 256) : (field n).toInt = n * 8388608 := by
  have : (field n).toNat = n * 8388608 := by simp only [field, BitVec.toNat_ofNat]; omega
  rw [BitVec.toInt_eq_toNat_cond, this, if_pos (by omega)]; push_cast; ring

/-- The bits of the least normal number, 2^-126. -/
theorem ofBits_min : Ideal.ofBits .f32 0x00800000#32 = (((2 : ℝ) ^ (-126 : ℤ) : ℝ) : EReal) := ofBits_field 1 (by omega) (by omega)

/-- Below 2^-126 the exponent field is zero. -/
theorem kE_low (v : EReal) {n : Nat} (h : n = 256) (hv : v < Ideal.ofBits .f32 0x00800000#32) : kE v h = 0#32 := by
  rw [ofBits_min] at hv
  apply kE_eq v h _ (by decide)
  · intro x hx
    by_cases h0 : x = 0
    · subst h0; rw [laneW_lo 0 (by omega)]; split_ifs <;> decide
    · rw [if_pos];
      refine lt_of_lt_of_le hv ?_
      by_cases hx' : x < 253
      · rw [laneW_lo x hx', ofBits_field x (by omega) (by omega), EReal.coe_le_coe_iff]
        exact zpow_le_zpow_right₀ (by norm_num) (by omega)
      · rw [laneW_hi x (by omega) hx, show field 255 = 0x7F800000#32 by decide, ofBits_top]; exact le_top
  · refine ⟨0, by omega, ?_⟩
    rw [laneW_lo 0 (by omega)]; split_ifs <;> decide

/-- At infinity the exponent field is 255. -/
theorem kE_top {n : Nat} (h : n = 256) : kE ⊤ h = field 255 := by
  apply kE_eq _ h _ (by decide)
  · intro x hx
    rw [if_neg not_top_lt]
    by_cases hx' : x < 253
    · rw [laneW_lo x hx', field_toInt x (by omega), field_toInt 255 (by omega)]; omega
    · rw [laneW_hi x (by omega) hx]
  · exact ⟨255, by omega, by rw [if_neg not_top_lt, laneW_hi 255 (by omega) (by omega)]⟩

/-- Between two consecutive powers of two the exponent field is the lower one's. -/
theorem kE_mid (r : ℝ) (k : Nat) (h1 : 1 ≤ k) (h2 : k ≤ 252) (hlo : (2:ℝ) ^ ((k : ℤ) - 127) ≤ r)
    (hhi : k < 252 → r < (2:ℝ) ^ ((k : ℤ) - 126)) {n : Nat} (h : n = 256) : kE (r : EReal) h = field k := by
  apply kE_eq _ h _ (by rw [field_toInt k (by omega)]; omega)
  · intro x hx
    by_cases hx' : x < 253
    · rw [laneW_lo x hx']
      by_cases hk : x ≤ k
      · split_ifs
        · rw [field_toInt k (by omega)]; simp
        · rw [field_toInt k (by omega), field_toInt x (by omega)]; omega
      · rw [if_pos]
        · rw [field_toInt k (by omega)]; simp
        · rw [ofBits_field x (by omega) (by omega), EReal.coe_lt_coe_iff]
          exact lt_of_lt_of_le (hhi (by omega)) (zpow_le_zpow_right₀ (by norm_num) (by omega))
    · rw [laneW_hi x (by omega) hx, show field 255 = 0x7F800000#32 by decide, ofBits_top, if_pos (EReal.coe_lt_top r)]
      rw [field_toInt k (by omega)]; simp
  · refine ⟨k, by omega, ?_⟩
    rw [laneW_lo k (by omega), if_neg]
    rw [ofBits_field k h1 (by omega), EReal.coe_lt_coe_iff]
    exact not_lt.2 hlo

/-- The scale of an exponent field is the next power of two. -/
theorem kS_field (k : Nat) (h1 : 1 ≤ k) (h2 : k ≤ 252) : kS (field k) = (((2 : ℝ) ^ ((k : ℤ) - 126) : ℝ) : EReal) := by
  have e : IntOp.addi (field k) 8388608#32 = field (k + 1) := by
    revert h1 h2; revert k
    have : ∀ k : Fin 253, IntOp.addi (field k) 8388608#32 = field (k + 1) := by decide +kernel
    intro k h1 h2; exact this ⟨k, by omega⟩
  have e0 : IntOp.cmpi CmpIPredicate.eq (field k) 0#32 = 0#1 := by
    clear e; revert h1 h2; revert k
    have : ∀ k : Fin 253, 1 ≤ k.val → IntOp.cmpi CmpIPredicate.eq (field k) 0#32 = 0#1 := by decide +kernel
    intro k h1 h2; exact this ⟨k, by omega⟩ h1
  rw [kS, e, e0, ofBits_field (k + 1) (by omega) (by omega)]
  simp only [Scalar.select]
  rw [if_neg (by decide)]
  congr 2; push_cast; ring

/-- The inverse scale of an exponent field is the reciprocal of the next power of two. -/
theorem kI_field (k : Nat) (h1 : 1 ≤ k) (h2 : k ≤ 252) : kI (field k) = (((2 : ℝ) ^ (126 - (k : ℤ)) : ℝ) : EReal) := by
  have e : IntOp.subi 2122317824#32 (field k) = field (253 - k) := by
    revert h1 h2; revert k
    have : ∀ k : Fin 253, IntOp.subi 2122317824#32 (field k) = field (253 - k) := by decide +kernel
    intro k h1 h2; exact this ⟨k, by omega⟩
  have e0 : IntOp.cmpi CmpIPredicate.eq (field k) 0#32 = 0#1 := by
    clear e; revert h1 h2; revert k
    have : ∀ k : Fin 253, 1 ≤ k.val → IntOp.cmpi CmpIPredicate.eq (field k) 0#32 = 0#1 := by decide +kernel
    intro k h1 h2; exact this ⟨k, by omega⟩ h1
  rw [kI, e, e0, ofBits_field (253 - k) (by omega) (by omega)]
  simp only [Scalar.select]
  rw [if_neg (by decide)]
  congr 2; omega

/-- At a value from the least normal float up, the reference's exponent is the logarithm's floor plus one, at most 126. -/
theorem rE_coe (r : ℝ) (hr : 0 < r) : rE r = ((min (⌊(Real.log r / Real.log 2)⌋ + 1) 126 : ℤ) : ℝ) := by
  have hl : Real.log 2 ≠ 0 := (Real.log_pos (by norm_num)).ne'
  rw [rE, ofBits_126, ofBits_two, Ideal.ofBits_one_f32]
  rw [show Ideal.log (r : EReal) = (Real.log r : EReal) from if_neg (not_le.2 hr),
    show Ideal.log ((2 : ℝ) : EReal) = (Real.log 2 : EReal) from if_neg (by norm_num)]
  rw [show Ideal.div (Real.log r : EReal) (Real.log 2 : EReal) = (((Real.log r / Real.log 2) : ℝ) : EReal) by
    rw [Ideal.div, if_neg (by exact_mod_cast hl), ← EReal.coe_inv, ← EReal.coe_mul, div_eq_mul_inv]]
  rw [show Ideal.liftRound Int.floor (((Real.log r / Real.log 2) : ℝ) : EReal) = (((⌊(Real.log r / Real.log 2)⌋ : ℤ) : ℝ) : EReal) from rfl]
  rw [show (1 : EReal) = ((1 : ℝ) : EReal) by norm_cast, ← EReal.coe_add]
  rw [← (EReal.coe_strictMono.monotone.map_min : ((min (((⌊Real.log r / Real.log 2⌋ : ℤ) : ℝ) + 1) 126 : ℝ) : EReal) = _)]
  push_cast; rfl

/-- The kernel's two scales are the reference's, at every extended real. -/
theorem scales_eq (v : EReal) {n : Nat} (h : n = 256) : kS (kE v h) = rS v ∧ kI (kE v h) = rI v := by
  by_cases hlow : v < Ideal.ofBits .f32 0x00800000#32
  · rw [kE_low v h hlow, rS, rI, if_pos hlow, if_pos hlow]
    exact ⟨rfl, rfl⟩
  by_cases htop : v = ⊤
  · subst htop
    rw [kE_top, rS, rI, if_neg hlow, if_neg hlow, if_pos rfl, if_pos rfl]
    constructor
    · exact ofBits_negzero
    · rfl
  obtain ⟨r, rfl⟩ : ∃ r : ℝ, (r : EReal) = v := by
    refine ⟨v.toReal, EReal.coe_toReal htop ?_⟩
    rintro rfl
    exact hlow (by rw [ofBits_min]; exact EReal.bot_lt_coe _)
  rw [ofBits_min, EReal.coe_lt_coe_iff, not_lt] at hlow
  have hr : 0 < r := lt_of_lt_of_le (by positivity) hlow
  have hlow' : ¬ (r : EReal) < Ideal.ofBits .f32 0x00800000#32 := by
    rw [ofBits_min, EReal.coe_lt_coe_iff, not_lt]; exact hlow
  have hpow : ∀ z : ℤ, (2:ℝ) ^ z ≤ r ↔ z ≤ ⌊(Real.log r / Real.log 2)⌋ := fun z => by
    rw [Int.le_floor, le_div_iff₀ (Real.log_pos (by norm_num)), ← Real.log_zpow, Real.log_le_log_iff (by positivity) hr]
  have he := (hpow _).1 hlow
  obtain ⟨k, hk⟩ : ∃ k : ℕ, (k : ℤ) = min (⌊(Real.log r / Real.log 2)⌋ + 127) 252 :=
    ⟨(min (⌊(Real.log r / Real.log 2)⌋ + 127) 252).toNat, Int.toNat_of_nonneg (by omega)⟩
  have hE : kE (r : EReal) h = field k := by
    apply kE_mid r k (by omega) (by omega)
    · rw [hpow]; omega
    · intro hlt
      rw [← not_le, hpow]; omega
  rw [hE, kS_field k (by omega) (by omega), kI_field k (by omega) (by omega), rS, rI, if_neg hlow', if_neg htop, if_neg hlow', if_neg htop, rE_coe r hr]
  have hm : min (⌊(Real.log r / Real.log 2)⌋ + 1) 126 = (k : ℤ) - 126 := by omega
  rw [hm]
  constructor
  · rw [Ideal.exp2_coe]
    congr 1
    exact (Real.rpow_intCast 2 _).symm
  · rw [show (0 : EReal) - ((((k : ℤ) - 126 : ℤ) : ℝ) : EReal) = (((126 - (k:ℤ) : ℤ) : ℝ) : EReal) by
      rw [show (0 : EReal) = ((0 : ℝ) : EReal) by norm_cast, ← EReal.coe_sub]; congr 1; push_cast; ring]
    rw [Ideal.exp2_coe]
    congr 1
    exact (Real.rpow_intCast 2 _).symm

end Cert.Val

end
-- ==== Proof.Spec.lean ====
/- What the kernel and the reference compute, in closed form. -/
module

public import proofs.«01_k».proof.Proof.Scale
public import Idealize.ShloMosaic.Lib.Pointwise

@[expose] public section

noncomputable section

namespace Cert.Val

open Idealize.ShloMosaic

/-- A group of 128 values' largest magnitude, times the float nearest 1/448. -/
def amxv (f : Fin 128 → EReal) : EReal :=
  Finset.fold max (Ideal.ofBits FTy.f32 4286578688#32) (fun x => FloatOps.absf (F := Ideal) (φ := .f32) (f x)) Finset.univ * Ideal.ofBits FTy.f32 991054117#32

/-- A group's scale. -/
def scale (f : Fin 128 → EReal) : EReal := rS (amxv f)

/-- The code of value `x` of group `f`: `x` over the scale, within ±448. -/
def code (f : Fin 128 → EReal) (x : EReal) : EReal :=
  min (Ideal.ofBits FTy.f32 1138753536#32) (max (Ideal.ofBits FTy.f32 3286237184#32) (x * rI (amxv f)))

section
variable (x : Vec Ideal ⟨3, ![24, 683, 3584]⟩ .bf16) (sz : Vec Ideal ⟨1, ![24]⟩ .i32)
  (w : Vec Ideal ⟨4, ![24, 2, 2176, 3584]⟩ .fp8e4m3) (ws : Vec Ideal ⟨4, ![24, 2, 17, 28]⟩ .f32)

/-- Group `j` of the tokens' row `r`. -/
def xgrp (e : Fin 24) (r : Fin 683) (j : Fin 28) : Fin 128 → EReal :=
  fun l => x (ix3 e r ⟨j.val * 128 + l.val, by omega⟩)

/-- The quantised token entry: its code times its scale. -/
def xq (e : Fin 24) (r : Fin 683) (k : Fin 3584) : EReal :=
  code (xgrp x e r ⟨k.val / 128, by omega⟩) (x (ix3 e r k)) * scale (xgrp x e r ⟨k.val / 128, by omega⟩)

/-- The weight entry: its code times its block's scale. -/
def wq (e : Fin 24) (g : Fin 2) (o : Fin 2176) (k : Fin 3584) : EReal :=
  w (ix4 e g o k) * ws (ix4 e g ⟨o.val / 128, by omega⟩ ⟨k.val / 128, by omega⟩)

/-- The product of the quantised tokens and the weights. -/
def dot (e : Fin 24) (r : Fin 683) (g : Fin 2) (o : Fin 2176) : EReal :=
  ∑ k : Fin 3584, xq x e r k * wq w ws e g o k

/-- The hidden value: gate times its logistic times up on an expert's rows, zero past them. -/
def hid (e : Fin 24) (r : Fin 683) (o : Fin 2176) : EReal :=
  Scalar.select (IntOp.cmpi .slt (BitVec.ofNat 32 r.val) (sz (ix1 e)))
    (dot x w ws e r 0 o * Ideal.logistic (dot x w ws e r 0 o) * dot x w ws e r 1 o) 0

/-- Group `n` of the hidden row `r`. -/
def hgrp (e : Fin 24) (r : Fin 683) (n : Fin 17) : Fin 128 → EReal :=
  fun l => hid x sz w ws e r ⟨n.val * 128 + l.val, by omega⟩

/-- The second result: the hidden groups' scales. -/
def outS : Vec Ideal ⟨3, ![24, 683, 17]⟩ .f32 := fun i => scale (hgrp x sz w ws (i 0) (i 1) (i 2))

/-- The first result: the hidden values' codes. -/
def outC : Vec Ideal ⟨3, ![24, 683, 2176]⟩ .fp8e4m3 := fun i =>
  code (hgrp x sz w ws (i 0) (i 1) ⟨(i 2).val / 128, by have := (i 2).isLt; simp at this; omega⟩) (hid x sz w ws (i 0) (i 1) (i 2))

end

end Cert.Val

end
-- ==== Proof.Quant.lean ====
/- The reference's quantiser, at any shape: the towers of operations that give a scale and its inverse, read at an index. -/
module

public import proofs.«01_k».proof.Proof.Spec
public import Idealize.ShloMosaic.Lib.Pointwise

@[expose] public section

noncomputable section

namespace Cert.Val

open Idealize.ShloMosaic

/-- A scalar constant is the value its bits stand for. -/
theorem ofBits_eq (φ : FTy) (b : BitVec φ.bits) : Scalar.ofBits (F := Ideal) φ b = Ideal.ofBits φ b := rfl

/-- A rank-2 index is a pair. -/
theorem ex2 {n0 n1 : Nat} (i : (⟨2, ![n0, n1]⟩ : Shape).Idx) : ∃ a b, i = ix2 a b := ⟨i 0, i 1, by funext a; fin_cases a <;> rfl⟩

/-- A rank-3 index is a triple. -/
theorem ex3 {n0 n1 n2 : Nat} (i : (⟨3, ![n0, n1, n2]⟩ : Shape).Idx) : ∃ a b c, i = ix3 a b c := ⟨i 0, i 1, i 2, by funext a; fin_cases a <;> rfl⟩

variable {s : Shape}

/-- A product with a constant, at an index. -/
theorem mul_gen (v : FVec Ideal s .f32) (c : EReal) (i : s.Idx) : mulf v (broadcast s c : FVec Ideal s .f32) i = v i * c := rfl

/-- A narrowing cast keeps every entry. -/
theorem trunc_gen {φ ψ : FTy} (v : FVec Ideal s φ) (h : ψ.bits < φ.bits) (i : s.Idx) : (truncf ψ v h i : EReal) = v i := rfl

/-- A widening cast keeps every entry. -/
theorem ext_gen {φ ψ : FTy} (v : FVec Ideal s φ) (h : φ.bits < ψ.bits) (i : s.Idx) : (extf ψ v h i : EReal) = v i := rfl

/-- The exponent's operations over any constants. -/
theorem eT_gen (c1 c2 c3 : EReal) (v : FVec Ideal s .f32) (i : s.Idx) :
    minimumf (addf (floor (divf (log v) (log (broadcast s c2 : FVec Ideal s .f32)))) (broadcast s c1 : FVec Ideal s .f32)) (broadcast s c3 : FVec Ideal s .f32) i
      = min (Ideal.liftRound Int.floor (Ideal.div (Ideal.log (v i)) (Ideal.log c2)) + c1) c3 := rfl

/-- The exponent: the logarithm's floor plus one, at most 126. -/
def eT (v : FVec Ideal s .f32) : FVec Ideal s .f32 :=
  minimumf (addf (floor (divf (log v) (log (broadcast s (Scalar.ofBits .f32 0x40000000#32))))) (broadcast s (Scalar.ofBits .f32 0x3F800000#32))) (broadcast s (Scalar.ofBits .f32 0x42FC0000#32))

/-- The reference's exponent, at an index. -/
theorem eT_at (v : FVec Ideal s .f32) (i : s.Idx) : eT v i = rE (v i) := by
  unfold eT rE
  simp only [ofBits_eq]
  exact eT_gen _ _ _ v i

/-- A choice among three by the value's size, over any constants. -/
theorem pick_gen (cm ci co : EReal) (v a b : FVec Ideal s .f32) (i : s.Idx) :
    select (cmpf .olt v (broadcast s cm : FVec Ideal s .f32)) (broadcast s co : FVec Ideal s .f32) (select (cmpf .oeq v (broadcast s ci : FVec Ideal s .f32)) a b) i
      = if v i < cm then co else if v i = ci then a i else b i := by
  pointwise []

/-- The scale. -/
def sT (v : FVec Ideal s .f32) : FVec Ideal s .f32 :=
  select (cmpf .olt v (broadcast s (Scalar.ofBits .f32 0x00800000#32))) (broadcast s (Scalar.ofBits .f32 0x3F800000#32))
    (select (cmpf .oeq v (broadcast s (Scalar.ofBits .f32 0x7F800000#32))) (broadcast s (Scalar.ofBits .f32 0x00000000#32)) (exp2 (eT v)))

/-- The reference's scale, at an index, is `rS` of the entry. -/
theorem sT_at (v : FVec Ideal s .f32) (i : s.Idx) : sT v i = rS (v i) := by
  unfold sT
  simp only [ofBits_eq]
  refine (pick_gen _ _ _ v _ _ i).trans ?_
  rw [ofBits_top, Ideal.ofBits_one_f32, Ideal.ofBits_zero_f32, rS]
  rw [show (exp2 (eT v)) i = Ideal.exp2 (rE (v i)) from congrArg Ideal.exp2 (eT_at v i)]
  rfl

/-- The inverse of the scale. -/
def iT (v : FVec Ideal s .f32) : FVec Ideal s .f32 :=
  select (cmpf .olt v (broadcast s (Scalar.ofBits .f32 0x00800000#32))) (broadcast s (Scalar.ofBits .f32 0x3F800000#32))
    (select (cmpf .oeq v (broadcast s (Scalar.ofBits .f32 0x7F800000#32))) (broadcast s (Scalar.ofBits .f32 0xFF000000#32)) (exp2 (subf (broadcast s (Scalar.ofBits .f32 0x00000000#32)) (eT v))))

/-- The reference's inverse scale, at an index, is `rI` of the entry. -/
theorem iT_at (v : FVec Ideal s .f32) (i : s.Idx) : iT v i = rI (v i) := by
  unfold iT
  simp only [ofBits_eq]
  refine (pick_gen _ _ _ v _ _ i).trans ?_
  rw [ofBits_top, Ideal.ofBits_one_f32, Ideal.ofBits_zero_f32, rI]
  rw [show (exp2 (subf (broadcast s (0 : EReal) : FVec Ideal s .f32) (eT v))) i = Ideal.exp2 (0 - rE (v i)) from congrArg (fun t => Ideal.exp2 (0 - t)) (eT_at v i)]
  rfl

end Cert.Val

end
-- ==== Proof.KPay.lean ====
/- The kernel's payloads read at an index. -/
module

public import proofs.«01_k».proof.Proof.Quant
public import proofs.«01_k».proof.Proof.Body

@[expose] public section

set_option maxRecDepth 16384

noncomputable section

namespace Cert.KernelIdeal.Val

open Idealize.ShloMosaic Cert.KernelIdeal Cert.KernelIdeal.Body
open Cert.Val (amxv scale code rI kE kS kI laneW scales_eq ofBits_eq mul_gen)

variable [Facts]
open Facts₀ Facts

/-! ## Blocks of 128 rows -/

/-- A row's maximum of magnitudes, 128 rows, is the fold of max over its 128 lanes. -/
theorem amx_g128 (v : FVec Ideal S128x128 .f32) (r : Fin 128) :
    multiReduction .maximumf [1] S128 (absf v) 0xFF800000#32 reduces_S128x128_S128 (.inl rfl) rfl (ix1 r)
      = Finset.fold max (Ideal.ofBits FTy.f32 4286578688#32) (fun l => FloatOps.absf (F := Ideal) (φ := .f32) (v (ix2 r l))) Finset.univ := by
  pointwise []

/-- 128 values as a column, at a row. -/
theorem col_g128 (v : FVec Ideal S128 .f32) (r : Fin 128) : shapeCast S128x1 v shapeCasts_S128_S128x1 (ix2 r 0) = v (ix1 r) := by
  pointwise []

/-- The kernel's scaled maximum, 128 rows, as its operations. -/
theorem amx128_eq (v : FVec Ideal S128x128 .f32) : amx128 v = mulf (shapeCast S128x1 (multiReduction .maximumf [1] S128 (absf v) 0xFF800000#32 reduces_S128x128_S128 (.inl rfl) rfl) shapeCasts_S128_S128x1)
    (broadcast S128x1 (Scalar.ofBits .f32 0x3B124925#32)) := rfl

/-- The kernel's scaled maximum, 128 rows, at a row, is `amxv` of the row. -/
theorem amx128_at (v : FVec Ideal S128x128 .f32) (r : Fin 128) : amx128 v (ix2 r 0) = amxv (fun l => v (ix2 r l)) := by
  rw [amx128_eq, mul_gen, col_g128, amx_g128, ofBits_eq, amxv]

/-- The table of exponent fields, 128 rows, at a lane. -/
theorem lanes128_at (r : Fin 128) (l : Fin 256) : (lanes128 : IVec S128x256 32) (ix2 r l) = laneW l.val := by
  pointwise [lanes128]
  rfl

/-- A row's maximum of integers, 128 rows, is the fold of max over its 256 lanes. -/
theorem fmax_g128 (v : IVec S128x256 32) (r : Fin 128) :
    shapeCast S128x1 (multiReductionI .maxsi [1] S128 v 2147483648#32 reduces_S128x256_S128 rfl) shapeCasts_S128_S128x1 (ix2 r 0)
      = Finset.fold IntOp.maxsi (2147483648#32) (fun l => v (ix2 r l)) Finset.univ := by
  pointwise []

/-- The fields a value reaches, 128 rows, at a lane: the lane's field, or zero when the value is below it. -/
theorem lim_g128 (L : IVec S128x256 32) (v : FVec Ideal S128x1 .f32) (r : Fin 128) (l : Fin 256) :
    select (cmpf .olt (broadcastTo S128x256 v broadcasts_S128x1_S128x256) (bitcastToFloat (F := Ideal) .f32 L)) (broadcast S128x256 0#32) L (ix2 r l)
      = if v (ix2 r 0) < Ideal.ofBits FTy.f32 (L (ix2 r l)) then 0#32 else L (ix2 r l) := by
  pointwise []

/-- The exponent field, 128 rows, as its operations. -/
theorem expo128_eq (v : FVec Ideal S128x1 .f32) : expo128 v = shapeCast S128x1 (multiReductionI .maxsi [1] S128
    (select (cmpf .olt (broadcastTo S128x256 v broadcasts_S128x1_S128x256) (bitcastToFloat (F := Ideal) .f32 lanes128)) (broadcast S128x256 0#32) lanes128)
    2147483648#32 reduces_S128x256_S128 rfl) shapeCasts_S128_S128x1 := rfl

/-- The exponent field, 128 rows, at a row, is `kE` of the row's value. -/
theorem expo128_at (v : FVec Ideal S128x1 .f32) (r : Fin 128) : expo128 v (ix2 r 0) = kE (v (ix2 r 0)) (n := 256) rfl := by
  rw [expo128_eq, fmax_g128, kE]
  simp only [lim_g128, lanes128_at]

/-- The scale of an exponent field, 128 rows, at a row. -/
theorem scl128_at (v : IVec S128x1 32) (i : S128x1.Idx) : (scl128 v : FVec Ideal S128x1 .f32) i = kS (v i) := by
  rw [kS, ← Ideal.ofBits_one_f32]; rfl

/-- The inverse scale of an exponent field, 128 rows, at a row. -/
theorem inv128_at (v : IVec S128x1 32) (i : S128x1.Idx) : (inv128 v : FVec Ideal S128x1 .f32) i = kI (v i) := by
  rw [kI, ← Ideal.ofBits_one_f32]; rfl

/-- The scale of a block of 128 rows, at a row, is the specification's scale of the row. -/
theorem sclamx128_at (v : FVec Ideal S128x128 .f32) (r : Fin 128) : (scl128 (expo128 (amx128 v)) : FVec Ideal S128x1 .f32) (ix2 r 0) = scale (fun l => v (ix2 r l)) := by
  rw [scl128_at, expo128_at, (scales_eq _ _).1, amx128_at, scale]

/-- The inverse scale of a block of 128 rows, at a row, is `rI` of the row's `amxv`. -/
theorem invamx128_at (v : FVec Ideal S128x128 .f32) (r : Fin 128) : (inv128 (expo128 (amx128 v)) : FVec Ideal S128x1 .f32) (ix2 r 0) = rI (amxv (fun l => v (ix2 r l))) := by
  rw [inv128_at, expo128_at, (scales_eq _ _).2, amx128_at]

/-- A product clipped between two bounds, 128 rows, at an entry. -/
theorem cod_g128 (u : FVec Ideal S128x128 .f32) (t : FVec Ideal S128x1 .f32) (a b : EReal) (r : Fin 128) (l : Fin 128) :
    (truncf .fp8e4m3 (minimumf (broadcast S128x128 b : FVec Ideal S128x128 .f32) (maximumf (broadcast S128x128 a : FVec Ideal S128x128 .f32) (mulf u (broadcastTo S128x128 t broadcasts_S128x1_S128x128)))) bitsLt_fp8e4m3_f32 : FVec Ideal S128x128 .fp8e4m3) (ix2 r l)
      = min b (max a (u (ix2 r l) * t (ix2 r 0))) := by
  pointwise []

/-- The codes of 128 rows, as their operations. -/
theorem cod128_eq (u : FVec Ideal S128x128 .f32) : cod128 u = (truncf .fp8e4m3 (minimumf (broadcast S128x128 (Scalar.ofBits .f32 0x43E00000#32)) (maximumf (broadcast S128x128 (Scalar.ofBits .f32 0xC3E00000#32)) (mulf u (broadcastTo S128x128 (inv128 (expo128 (amx128 u))) broadcasts_S128x1_S128x128)))) bitsLt_fp8e4m3_f32 : FVec Ideal S128x128 .fp8e4m3) := rfl

/-- The codes of 128 rows, at an entry, are the specification's. -/
theorem cod128_at (u : FVec Ideal S128x128 .f32) (r : Fin 128) (l : Fin 128) : cod128 u (ix2 r l) = code (fun l => u (ix2 r l)) (u (ix2 r l)) := by
  rw [cod128_eq, cod_g128, invamx128_at, ofBits_eq, ofBits_eq, code]

/-- The tokens' block as 128 rows, at an entry. -/
theorem xcast_g128 (v : Vec Ideal S1x128x128 .bf16) (r : Fin 128) (l : Fin 128) :
    (extf .f32 (shapeCast S128x128 v shapeCasts_S1x128x128_S128x128 : FVec Ideal S128x128 .bf16) bitsLt_bf16_f32 : FVec Ideal S128x128 .f32) (ix2 r l) = v (ix3 0 r l) := by
  pointwise []

/-- Codes times their row's scale, 128 rows, at an entry. -/
theorem xmul_g128 (a : FVec Ideal S128x128 .fp8e4m3) (b : FVec Ideal S128x1 .f32) (r : Fin 128) (l : Fin 128) :
    (shapeCast S128x128 (mulf (extf .bf16 a bitsLt_fp8e4m3_bf16) (broadcastTo S128x128 (truncf .bf16 b bitsLt_bf16_f32) broadcasts_S128x1_S128x128)) shapeCasts_S128x128_S128x128 : FVec Ideal S128x128 .bf16) (ix2 r l)
      = a (ix2 r l) * b (ix2 r 0) := by
  pointwise []

/-- The quantised tokens of 128 rows, as their operations. -/
theorem xpay128_eq (v : Vec Ideal S1x128x128 .bf16) : xpay128 v
    = shapeCast S128x128 (mulf (extf .bf16 (cod128 (extf .f32 (shapeCast S128x128 v shapeCasts_S1x128x128_S128x128 : FVec Ideal S128x128 .bf16) bitsLt_bf16_f32)) bitsLt_fp8e4m3_bf16)
      (broadcastTo S128x128 (truncf .bf16 (scl128 (expo128 (amx128 (extf .f32 (shapeCast S128x128 v shapeCasts_S1x128x128_S128x128 : FVec Ideal S128x128 .bf16) bitsLt_bf16_f32)))) bitsLt_bf16_f32) broadcasts_S128x1_S128x128)) shapeCasts_S128x128_S128x128 := rfl

/-- A quantised activation block at an index: the entry's code times its group's scale. -/
theorem xpay128_at (v : Vec Ideal S1x128x128 .bf16) (r : Fin 128) (l : Fin 128) :
    xpay128 v (ix2 r l) = code (fun l => v (ix3 0 r l)) (v (ix3 0 r l)) * scale (fun l => v (ix3 0 r l)) := by
  rw [xpay128_eq, xmul_g128, cod128_at, sclamx128_at]
  simp only [xcast_g128]

/-- A hidden chunk at an index. -/
theorem hid128_at (r0 v1 : BitVec 32) (a : Vec Ideal S128x3584 .bf16) (b : Vec Ideal S256x3584 .bf16) (r : Fin 128) (l : Fin 128) :
    hid128 r0 v1 a b (ix2 r l) = Scalar.select (IntOp.cmpi .slt (IntOp.addi r0 (BitVec.ofNat 32 r.val)) v1)
      ((∑ k : Fin 3584, a (ix2 r k) * b (ix2 ⟨l.val, by omega⟩ k)) * Ideal.logistic (∑ k : Fin 3584, a (ix2 r k) * b (ix2 ⟨l.val, by omega⟩ k))
        * ∑ k : Fin 3584, a (ix2 r k) * b (ix2 ⟨128 + l.val, by omega⟩ k)) 0 := by
  pointwise [hid128]

/-- The hidden codes of 128 rows, at an entry, are the specification's of the hidden row. -/
theorem hcod128_at (r0 v1 : BitVec 32) (a : Vec Ideal S128x3584 .bf16) (b : Vec Ideal S256x3584 .bf16) (r : Fin 128) (l : Fin 128) :
    hcod128 r0 v1 a b (ix2 r l) = code (fun l => hid128 r0 v1 a b (ix2 r l)) (hid128 r0 v1 a b (ix2 r l)) := by
  rw [hcod128, ← cod128_at]
  generalize cod128 (hid128 r0 v1 a b) = u
  pointwise []

/-- A column of scales put in one lane of the old scales, 128 rows, at an entry. -/
theorem hscl_g128 (arg1 : BitVec 32) (u : FVec Ideal S128x1 .f32) (old : Vec Ideal S1x128x17 .f32) (r : Fin 128) (n : Fin 17) :
    (shapeCast S1x128x17 (select (cmpi .eq (iota .tc S128x17 32 [1] iota_S128x17_d1_w32) (broadcast S128x17 arg1))
      (broadcastTo S128x17 (shapeCast S128x1 u shapeCasts_S128x1_S128x1) broadcasts_S128x1_S128x17)
      (shapeCast S128x17 old shapeCasts_S1x128x17_S128x17)) shapeCasts_S128x17_S1x128x17 : FVec Ideal S1x128x17 .f32) (ix3 0 r n)
      = Scalar.select (IntOp.cmpi .eq (BitVec.ofNat 32 n.val) arg1) (u (ix2 r 0)) (old (ix3 0 r n)) := by
  pointwise []

/-- The scales a hidden chunk leaves, at an index. -/
theorem hscl128_at (arg1 r0 v1 : BitVec 32) (a : Vec Ideal S128x3584 .bf16) (b : Vec Ideal S256x3584 .bf16) (old : Vec Ideal S1x128x17 .f32) (r : Fin 128) (n : Fin 17) :
    hscl128 arg1 r0 v1 a b old (ix3 0 r n) = Scalar.select (IntOp.cmpi .eq (BitVec.ofNat 32 n.val) arg1)
      (scale (fun l => hid128 r0 v1 a b (ix2 r l))) (old (ix3 0 r n)) := by
  rw [← sclamx128_at]
  exact hscl_g128 arg1 _ old r n

/-! ## Blocks of 43 rows -/

/-- A row's maximum of magnitudes, 43 rows, is the fold of max over its 128 lanes. -/
theorem amx_g43 (v : FVec Ideal S43x128 .f32) (r : Fin 43) :
    multiReduction .maximumf [1] S43 (absf v) 0xFF800000#32 reduces_S43x128_S43 (.inl rfl) rfl (ix1 r)
      = Finset.fold max (Ideal.ofBits FTy.f32 4286578688#32) (fun l => FloatOps.absf (F := Ideal) (φ := .f32) (v (ix2 r l))) Finset.univ := by
  pointwise []

/-- 43 values as a column, at a row. -/
theorem col_g43 (v : FVec Ideal S43 .f32) (r : Fin 43) : shapeCast S43x1 v shapeCasts_S43_S43x1 (ix2 r 0) = v (ix1 r) := by
  pointwise []

/-- The kernel's scaled maximum, 43 rows, as its operations. -/
theorem amx43_eq (v : FVec Ideal S43x128 .f32) : amx43 v = mulf (shapeCast S43x1 (multiReduction .maximumf [1] S43 (absf v) 0xFF800000#32 reduces_S43x128_S43 (.inl rfl) rfl) shapeCasts_S43_S43x1)
    (broadcast S43x1 (Scalar.ofBits .f32 0x3B124925#32)) := rfl

/-- The kernel's scaled maximum, 43 rows, at a row, is `amxv` of the row. -/
theorem amx43_at (v : FVec Ideal S43x128 .f32) (r : Fin 43) : amx43 v (ix2 r 0) = amxv (fun l => v (ix2 r l)) := by
  rw [amx43_eq, mul_gen, col_g43, amx_g43, ofBits_eq, amxv]

/-- The table of exponent fields, 43 rows, at a lane. -/
theorem lanes43_at (r : Fin 43) (l : Fin 256) : (lanes43 : IVec S43x256 32) (ix2 r l) = laneW l.val := by
  pointwise [lanes43]
  rfl

/-- A row's maximum of integers, 43 rows, is the fold of max over its 256 lanes. -/
theorem fmax_g43 (v : IVec S43x256 32) (r : Fin 43) :
    shapeCast S43x1 (multiReductionI .maxsi [1] S43 v 2147483648#32 reduces_S43x256_S43 rfl) shapeCasts_S43_S43x1 (ix2 r 0)
      = Finset.fold IntOp.maxsi (2147483648#32) (fun l => v (ix2 r l)) Finset.univ := by
  pointwise []

/-- The fields a value reaches, 43 rows, at a lane: the lane's field, or zero when the value is below it. -/
theorem lim_g43 (L : IVec S43x256 32) (v : FVec Ideal S43x1 .f32) (r : Fin 43) (l : Fin 256) :
    select (cmpf .olt (broadcastTo S43x256 v broadcasts_S43x1_S43x256) (bitcastToFloat (F := Ideal) .f32 L)) (broadcast S43x256 0#32) L (ix2 r l)
      = if v (ix2 r 0) < Ideal.ofBits FTy.f32 (L (ix2 r l)) then 0#32 else L (ix2 r l) := by
  pointwise []

/-- The exponent field, 43 rows, as its operations. -/
theorem expo43_eq (v : FVec Ideal S43x1 .f32) : expo43 v = shapeCast S43x1 (multiReductionI .maxsi [1] S43
    (select (cmpf .olt (broadcastTo S43x256 v broadcasts_S43x1_S43x256) (bitcastToFloat (F := Ideal) .f32 lanes43)) (broadcast S43x256 0#32) lanes43)
    2147483648#32 reduces_S43x256_S43 rfl) shapeCasts_S43_S43x1 := rfl

/-- The exponent field, 43 rows, at a row, is `kE` of the row's value. -/
theorem expo43_at (v : FVec Ideal S43x1 .f32) (r : Fin 43) : expo43 v (ix2 r 0) = kE (v (ix2 r 0)) (n := 256) rfl := by
  rw [expo43_eq, fmax_g43, kE]
  simp only [lim_g43, lanes43_at]

/-- The scale of an exponent field, 43 rows, at a row. -/
theorem scl43_at (v : IVec S43x1 32) (i : S43x1.Idx) : (scl43 v : FVec Ideal S43x1 .f32) i = kS (v i) := by
  rw [kS, ← Ideal.ofBits_one_f32]; rfl

/-- The inverse scale of an exponent field, 43 rows, at a row. -/
theorem inv43_at (v : IVec S43x1 32) (i : S43x1.Idx) : (inv43 v : FVec Ideal S43x1 .f32) i = kI (v i) := by
  rw [kI, ← Ideal.ofBits_one_f32]; rfl

/-- The scale of a block of 43 rows, at a row, is the specification's scale of the row. -/
theorem sclamx43_at (v : FVec Ideal S43x128 .f32) (r : Fin 43) : (scl43 (expo43 (amx43 v)) : FVec Ideal S43x1 .f32) (ix2 r 0) = scale (fun l => v (ix2 r l)) := by
  rw [scl43_at, expo43_at, (scales_eq _ _).1, amx43_at, scale]

/-- The inverse scale of a block of 43 rows, at a row, is `rI` of the row's `amxv`. -/
theorem invamx43_at (v : FVec Ideal S43x128 .f32) (r : Fin 43) : (inv43 (expo43 (amx43 v)) : FVec Ideal S43x1 .f32) (ix2 r 0) = rI (amxv (fun l => v (ix2 r l))) := by
  rw [inv43_at, expo43_at, (scales_eq _ _).2, amx43_at]

/-- A product clipped between two bounds, 43 rows, at an entry. -/
theorem cod_g43 (u : FVec Ideal S43x128 .f32) (t : FVec Ideal S43x1 .f32) (a b : EReal) (r : Fin 43) (l : Fin 128) :
    (truncf .fp8e4m3 (minimumf (broadcast S43x128 b : FVec Ideal S43x128 .f32) (maximumf (broadcast S43x128 a : FVec Ideal S43x128 .f32) (mulf u (broadcastTo S43x128 t broadcasts_S43x1_S43x128)))) bitsLt_fp8e4m3_f32 : FVec Ideal S43x128 .fp8e4m3) (ix2 r l)
      = min b (max a (u (ix2 r l) * t (ix2 r 0))) := by
  pointwise []

/-- The codes of 43 rows, as their operations. -/
theorem cod43_eq (u : FVec Ideal S43x128 .f32) : cod43 u = (truncf .fp8e4m3 (minimumf (broadcast S43x128 (Scalar.ofBits .f32 0x43E00000#32)) (maximumf (broadcast S43x128 (Scalar.ofBits .f32 0xC3E00000#32)) (mulf u (broadcastTo S43x128 (inv43 (expo43 (amx43 u))) broadcasts_S43x1_S43x128)))) bitsLt_fp8e4m3_f32 : FVec Ideal S43x128 .fp8e4m3) := rfl

/-- The codes of 43 rows, at an entry, are the specification's. -/
theorem cod43_at (u : FVec Ideal S43x128 .f32) (r : Fin 43) (l : Fin 128) : cod43 u (ix2 r l) = code (fun l => u (ix2 r l)) (u (ix2 r l)) := by
  rw [cod43_eq, cod_g43, invamx43_at, ofBits_eq, ofBits_eq, code]

/-- The tokens' block as 43 rows, at an entry. -/
theorem xcast_g43 (v : Vec Ideal S1x43x128 .bf16) (r : Fin 43) (l : Fin 128) :
    (extf .f32 (shapeCast S43x128 v shapeCasts_S1x43x128_S43x128 : FVec Ideal S43x128 .bf16) bitsLt_bf16_f32 : FVec Ideal S43x128 .f32) (ix2 r l) = v (ix3 0 r l) := by
  pointwise []

/-- Codes times their row's scale, 43 rows, at an entry. -/
theorem xmul_g43 (a : FVec Ideal S43x128 .fp8e4m3) (b : FVec Ideal S43x1 .f32) (r : Fin 43) (l : Fin 128) :
    (shapeCast S43x128 (mulf (extf .bf16 a bitsLt_fp8e4m3_bf16) (broadcastTo S43x128 (truncf .bf16 b bitsLt_bf16_f32) broadcasts_S43x1_S43x128)) shapeCasts_S43x128_S43x128 : FVec Ideal S43x128 .bf16) (ix2 r l)
      = a (ix2 r l) * b (ix2 r 0) := by
  pointwise []

/-- The quantised tokens of 43 rows, as their operations. -/
theorem xpay43_eq (v : Vec Ideal S1x43x128 .bf16) : xpay43 v
    = shapeCast S43x128 (mulf (extf .bf16 (cod43 (extf .f32 (shapeCast S43x128 v shapeCasts_S1x43x128_S43x128 : FVec Ideal S43x128 .bf16) bitsLt_bf16_f32)) bitsLt_fp8e4m3_bf16)
      (broadcastTo S43x128 (truncf .bf16 (scl43 (expo43 (amx43 (extf .f32 (shapeCast S43x128 v shapeCasts_S1x43x128_S43x128 : FVec Ideal S43x128 .bf16) bitsLt_bf16_f32)))) bitsLt_bf16_f32) broadcasts_S43x1_S43x128)) shapeCasts_S43x128_S43x128 := rfl

/-- A quantised activation block at an index: the entry's code times its group's scale. -/
theorem xpay43_at (v : Vec Ideal S1x43x128 .bf16) (r : Fin 43) (l : Fin 128) :
    xpay43 v (ix2 r l) = code (fun l => v (ix3 0 r l)) (v (ix3 0 r l)) * scale (fun l => v (ix3 0 r l)) := by
  rw [xpay43_eq, xmul_g43, cod43_at, sclamx43_at]
  simp only [xcast_g43]

/-- A scaled weight block at an index. -/
theorem wpay_at (c : EReal) (v : Vec Ideal S1x1x128x128 .fp8e4m3) (a b : Fin 128) :
    (wpay (F := Ideal) c v : FVec Ideal S128x128 .bf16) (ix2 a b) = v (ix4 0 0 a b) * c := by
  pointwise [wpay]

/-! ## Blocks of 64 rows -/

/-- A row's maximum of magnitudes, 64 rows, is the fold of max over its 128 lanes. -/
theorem amx_g64 (v : FVec Ideal S64x128 .f32) (r : Fin 64) :
    multiReduction .maximumf [1] S64 (absf v) 0xFF800000#32 reduces_S64x128_S64 (.inl rfl) rfl (ix1 r)
      = Finset.fold max (Ideal.ofBits FTy.f32 4286578688#32) (fun l => FloatOps.absf (F := Ideal) (φ := .f32) (v (ix2 r l))) Finset.univ := by
  pointwise []

/-- 64 values as a column, at a row. -/
theorem col_g64 (v : FVec Ideal S64 .f32) (r : Fin 64) : shapeCast S64x1 v shapeCasts_S64_S64x1 (ix2 r 0) = v (ix1 r) := by
  pointwise []

/-- The kernel's scaled maximum, 64 rows, as its operations. -/
theorem amx64_eq (v : FVec Ideal S64x128 .f32) : amx64 v = mulf (shapeCast S64x1 (multiReduction .maximumf [1] S64 (absf v) 0xFF800000#32 reduces_S64x128_S64 (.inl rfl) rfl) shapeCasts_S64_S64x1)
    (broadcast S64x1 (Scalar.ofBits .f32 0x3B124925#32)) := rfl

/-- The kernel's scaled maximum, 64 rows, at a row, is `amxv` of the row. -/
theorem amx64_at (v : FVec Ideal S64x128 .f32) (r : Fin 64) : amx64 v (ix2 r 0) = amxv (fun l => v (ix2 r l)) := by
  rw [amx64_eq, mul_gen, col_g64, amx_g64, ofBits_eq, amxv]

/-- The table of exponent fields, 64 rows, at a lane. -/
theorem lanes64_at (r : Fin 64) (l : Fin 256) : (lanes64 : IVec S64x256 32) (ix2 r l) = laneW l.val := by
  pointwise [lanes64]
  rfl

/-- A row's maximum of integers, 64 rows, is the fold of max over its 256 lanes. -/
theorem fmax_g64 (v : IVec S64x256 32) (r : Fin 64) :
    shapeCast S64x1 (multiReductionI .maxsi [1] S64 v 2147483648#32 reduces_S64x256_S64 rfl) shapeCasts_S64_S64x1 (ix2 r 0)
      = Finset.fold IntOp.maxsi (2147483648#32) (fun l => v (ix2 r l)) Finset.univ := by
  pointwise []

/-- The fields a value reaches, 64 rows, at a lane: the lane's field, or zero when the value is below it. -/
theorem lim_g64 (L : IVec S64x256 32) (v : FVec Ideal S64x1 .f32) (r : Fin 64) (l : Fin 256) :
    select (cmpf .olt (broadcastTo S64x256 v broadcasts_S64x1_S64x256) (bitcastToFloat (F := Ideal) .f32 L)) (broadcast S64x256 0#32) L (ix2 r l)
      = if v (ix2 r 0) < Ideal.ofBits FTy.f32 (L (ix2 r l)) then 0#32 else L (ix2 r l) := by
  pointwise []

/-- The exponent field, 64 rows, as its operations. -/
theorem expo64_eq (v : FVec Ideal S64x1 .f32) : expo64 v = shapeCast S64x1 (multiReductionI .maxsi [1] S64
    (select (cmpf .olt (broadcastTo S64x256 v broadcasts_S64x1_S64x256) (bitcastToFloat (F := Ideal) .f32 lanes64)) (broadcast S64x256 0#32) lanes64)
    2147483648#32 reduces_S64x256_S64 rfl) shapeCasts_S64_S64x1 := rfl

/-- The exponent field, 64 rows, at a row, is `kE` of the row's value. -/
theorem expo64_at (v : FVec Ideal S64x1 .f32) (r : Fin 64) : expo64 v (ix2 r 0) = kE (v (ix2 r 0)) (n := 256) rfl := by
  rw [expo64_eq, fmax_g64, kE]
  simp only [lim_g64, lanes64_at]

/-- The scale of an exponent field, 64 rows, at a row. -/
theorem scl64_at (v : IVec S64x1 32) (i : S64x1.Idx) : (scl64 v : FVec Ideal S64x1 .f32) i = kS (v i) := by
  rw [kS, ← Ideal.ofBits_one_f32]; rfl

/-- The inverse scale of an exponent field, 64 rows, at a row. -/
theorem inv64_at (v : IVec S64x1 32) (i : S64x1.Idx) : (inv64 v : FVec Ideal S64x1 .f32) i = kI (v i) := by
  rw [kI, ← Ideal.ofBits_one_f32]; rfl

/-- The scale of a block of 64 rows, at a row, is the specification's scale of the row. -/
theorem sclamx64_at (v : FVec Ideal S64x128 .f32) (r : Fin 64) : (scl64 (expo64 (amx64 v)) : FVec Ideal S64x1 .f32) (ix2 r 0) = scale (fun l => v (ix2 r l)) := by
  rw [scl64_at, expo64_at, (scales_eq _ _).1, amx64_at, scale]

/-- The inverse scale of a block of 64 rows, at a row, is `rI` of the row's `amxv`. -/
theorem invamx64_at (v : FVec Ideal S64x128 .f32) (r : Fin 64) : (inv64 (expo64 (amx64 v)) : FVec Ideal S64x1 .f32) (ix2 r 0) = rI (amxv (fun l => v (ix2 r l))) := by
  rw [inv64_at, expo64_at, (scales_eq _ _).2, amx64_at]

/-- A product clipped between two bounds, 64 rows, at an entry. -/
theorem cod_g64 (u : FVec Ideal S64x128 .f32) (t : FVec Ideal S64x1 .f32) (a b : EReal) (r : Fin 64) (l : Fin 128) :
    (truncf .fp8e4m3 (minimumf (broadcast S64x128 b : FVec Ideal S64x128 .f32) (maximumf (broadcast S64x128 a : FVec Ideal S64x128 .f32) (mulf u (broadcastTo S64x128 t broadcasts_S64x1_S64x128)))) bitsLt_fp8e4m3_f32 : FVec Ideal S64x128 .fp8e4m3) (ix2 r l)
      = min b (max a (u (ix2 r l) * t (ix2 r 0))) := by
  pointwise []

/-- The codes of 64 rows, as their operations. -/
theorem cod64_eq (u : FVec Ideal S64x128 .f32) : cod64 u = (truncf .fp8e4m3 (minimumf (broadcast S64x128 (Scalar.ofBits .f32 0x43E00000#32)) (maximumf (broadcast S64x128 (Scalar.ofBits .f32 0xC3E00000#32)) (mulf u (broadcastTo S64x128 (inv64 (expo64 (amx64 u))) broadcasts_S64x1_S64x128)))) bitsLt_fp8e4m3_f32 : FVec Ideal S64x128 .fp8e4m3) := rfl

/-- The codes of 64 rows, at an entry, are the specification's. -/
theorem cod64_at (u : FVec Ideal S64x128 .f32) (r : Fin 64) (l : Fin 128) : cod64 u (ix2 r l) = code (fun l => u (ix2 r l)) (u (ix2 r l)) := by
  rw [cod64_eq, cod_g64, invamx64_at, ofBits_eq, ofBits_eq, code]

/-- A hidden chunk at an index. -/
theorem hid64_at (r0 v1 : BitVec 32) (a : Vec Ideal S64x3584 .bf16) (b : Vec Ideal S256x3584 .bf16) (r : Fin 64) (l : Fin 128) :
    hid64 r0 v1 a b (ix2 r l) = Scalar.select (IntOp.cmpi .slt (IntOp.addi r0 (BitVec.ofNat 32 r.val)) v1)
      ((∑ k : Fin 3584, a (ix2 r k) * b (ix2 ⟨l.val, by omega⟩ k)) * Ideal.logistic (∑ k : Fin 3584, a (ix2 r k) * b (ix2 ⟨l.val, by omega⟩ k))
        * ∑ k : Fin 3584, a (ix2 r k) * b (ix2 ⟨128 + l.val, by omega⟩ k)) 0 := by
  pointwise [hid64]

/-- The hidden codes of 64 rows, at an entry, are the specification's of the hidden row. -/
theorem hcod64_at (r0 v1 : BitVec 32) (a : Vec Ideal S64x3584 .bf16) (b : Vec Ideal S256x3584 .bf16) (r : Fin 64) (l : Fin 128) :
    hcod64 r0 v1 a b (ix2 r l) = code (fun l => hid64 r0 v1 a b (ix2 r l)) (hid64 r0 v1 a b (ix2 r l)) := by
  rw [hcod64, ← cod64_at]
  generalize cod64 (hid64 r0 v1 a b) = u
  pointwise []

/-- A column of scales put in one lane of the old scales, 64 rows, at an entry. -/
theorem hscl_g64 (arg1 : BitVec 32) (u : FVec Ideal S64x1 .f32) (old : Vec Ideal S1x43x17 .f32) (r : Fin 43) (n : Fin 17) :
    (shapeCast S1x43x17 (select (cmpi .eq (iota .tc S43x17 32 [1] iota_S43x17_d1_w32) (broadcast S43x17 arg1))
      (broadcastTo S43x17 (shapeCast S43x1 (extractStridedSlice S43x1 ![0, 0] u slices_S64x1_o0_0_S43x1) shapeCasts_S43x1_S43x1) broadcasts_S43x1_S43x17)
      (shapeCast S43x17 old shapeCasts_S1x43x17_S43x17)) shapeCasts_S43x17_S1x43x17 : FVec Ideal S1x43x17 .f32) (ix3 0 r n)
      = Scalar.select (IntOp.cmpi .eq (BitVec.ofNat 32 n.val) arg1) (u (ix2 ⟨r.val, by omega⟩ 0)) (old (ix3 0 r n)) := by
  pointwise []

/-- The scales the last hidden chunk leaves, at an index. -/
theorem hscl64_at (arg1 r0 v1 : BitVec 32) (a : Vec Ideal S64x3584 .bf16) (b : Vec Ideal S256x3584 .bf16) (old : Vec Ideal S1x43x17 .f32) (r : Fin 43) (n : Fin 17) :
    hscl64 arg1 r0 v1 a b old (ix3 0 r n) = Scalar.select (IntOp.cmpi .eq (BitVec.ofNat 32 n.val) arg1)
      (scale (fun l => hid64 r0 v1 a b (ix2 ⟨r.val, by omega⟩ l))) (old (ix3 0 r n)) := by
  rw [← sclamx64_at]
  exact hscl_g64 arg1 _ old r n

end Cert.KernelIdeal.Val

end
-- ==== Proof.State.lean ====
/- The kernel's buffers, read at an index, after each part of a grid point's work. -/
module

public import proofs.«01_k».proof.Proof.KPay
public import proofs.«01_k».proof.Proof.Triple
public import Idealize.ShloMosaic.Lib.Pipeline.ValueKit

@[expose] public section

set_option maxRecDepth 16384

noncomputable section

namespace Cert.KernelIdeal.Val

open Idealize.ShloMosaic Cert.KernelIdeal Cert.KernelIdeal.Body
open Cert.Val (amxv scale code)

/-! ## Overlays and loads at an index -/

/-- A buffer with a rectangle overwritten, inside the rectangle. -/
theorem ov_in {s : Shape} {α : Type} (off size : Fin s.rank → Nat) (inb) (X : s.Idx → α) (G : (Rect.unit off size inb).shape.Idx → α)
    (y : s.Idx) (x : (Rect.unit off size inb).shape.Idx) (h : ∀ a, (y a : Nat) = off a + x a) : (Rect.unit off size inb).overlay X G y = G x := by
  have e : y = (Rect.unit off size inb).emb x := funext fun a => Fin.ext ((h a).trans (Rect.idx_unit_val off size inb x a).symm)
  rw [e, Rect.overlay_emb]

/-- A buffer with a rectangle overwritten, outside the rectangle. -/
theorem ov_out {s : Shape} {α : Type} (off size : Fin s.rank → Nat) (inb) (X : s.Idx → α) (G : (Rect.unit off size inb).shape.Idx → α)
    (y : s.Idx) (a : Fin s.rank) (h : (y a : Nat) < off a ∨ off a + size a ≤ (y a : Nat)) : (Rect.unit off size inb).overlay X G y = X y := by
  refine Rect.overlay_of_not_mem _ _ _ fun hm => ?_
  obtain ⟨x, -, rfl⟩ := Finset.mem_map.mp (Rect.map_emb_univ _ ▸ hm)
  have h1 : (((Rect.unit off size inb).emb x) a : Nat) = off a + x a := Rect.idx_unit_val off size inb x a
  have h2 : (x a : Nat) < size a := (x a).isLt
  omega

/-- A run of overlays: an index some step covers holds its value, an index none covers is as it was. -/
theorem foldl_cover {α β ι : Type} (f : ι → (α → β) → α → β) (C : ι → α → Prop) (val : α → β)
    (hin : ∀ j A y, C j y → f j A y = val y) (hout : ∀ j A y, ¬ C j y → f j A y = A y) (L : List ι) (y : α) :
    ∀ A : α → β, ((∀ j ∈ L, ¬ C j y) → L.foldl (fun A j => f j A) A y = A y) ∧ ((∃ j ∈ L, C j y) → L.foldl (fun A j => f j A) A y = val y) := by
  induction L with
  | nil => intro A; exact ⟨fun _ => rfl, fun ⟨j, hj, _⟩ => absurd hj List.not_mem_nil⟩
  | cons a L ih =>
    intro A
    refine ⟨fun h => ?_, fun h => ?_⟩
    · rw [List.foldl_cons, (ih _).1 fun j hj => h j (List.mem_cons_of_mem _ hj)]
      exact hout a A y (h a List.mem_cons_self)
    · rw [List.foldl_cons]
      by_cases hL : ∃ j ∈ L, C j y
      · exact (ih _).2 hL
      · rw [(ih _).1 fun j hj hc => hL ⟨j, hj, hc⟩]
        obtain ⟨j, hj, hc⟩ := h
        rcases List.mem_cons.mp hj with rfl | hj
        · exact hin j A y hc
        · exact absurd ⟨j, hj, hc⟩ hL

variable [Facts]
open Facts₀ Facts

/-- Every column block is in the list. -/
theorem mem_ks (j : Fin 28) : j ∈ ks := by revert j; decide
/-- Every weight block is in the list. -/
theorem mem_gks (gj : Fin 2 × Fin 28) : gj ∈ gks := by revert gj; decide

/-! ## The quantised activations -/

/-- An activation entry's code times its group's scale. -/
def XQ (x : Vec Ideal S1x683x3584 .bf16) (r : Fin 683) (k : Fin 3584) : EReal :=
  code (fun l => x (ix3 0 r ⟨k.val / 128 * 128 + l.val, by omega⟩)) (x (ix3 0 r k)) * scale (fun l => x (ix3 0 r ⟨k.val / 128 * 128 + l.val, by omega⟩))

/-- The load of 128 token rows and 128 lanes, at an entry. -/
theorem xld128 (x : Vec Ideal S1x683x3584 .bf16) (r0 : Nat) (hr : r0 + 128 ≤ 683) (j : Fin 28) (a b : Fin 128) :
    (View.ld x (rX128 r0 hr j) : Vec Ideal S1x128x128 .bf16) (ix3 0 a b) = x (ix3 0 ⟨r0 + a.val, by omega⟩ ⟨j.val * 128 + b.val, by omega⟩) :=
  View.ld_unit_apply_of x _ _ _ _ _ fun c => by
    fin_cases c
    · rfl
    · rfl
    · show j.val * 128 + b.val = 128 * j.val + b.val; omega

/-- The load of 43 token rows and 128 lanes, at an entry. -/
theorem xld43 (x : Vec Ideal S1x683x3584 .bf16) (j : Fin 28) (a : Fin 43) (b : Fin 128) :
    (View.ld x (rX43 j) : Vec Ideal S1x43x128 .bf16) (ix3 0 a b) = x (ix3 0 ⟨640 + a.val, by omega⟩ ⟨j.val * 128 + b.val, by omega⟩) :=
  View.ld_unit_apply_of x _ _ _ _ _ fun c => by
    fin_cases c
    · rfl
    · rfl
    · show j.val * 128 + b.val = 128 * j.val + b.val; omega

/-- The quantised tokens of 128 rows, at an entry, from the row's values. -/
theorem xpay128_of (v : Vec Ideal S1x128x128 .bf16) (r l : Fin 128) (f : Fin 128 → EReal) (hv : ∀ l : Fin 128, v (ix3 0 r l) = f l) :
    xpay128 v (ix2 r l) = code f (f l) * scale f := by
  rw [xpay128_at, show (fun l : Fin 128 => v (ix3 0 r l)) = f from funext hv, hv]

/-- The quantised tokens of 43 rows, at an entry, from the row's values. -/
theorem xpay43_of (v : Vec Ideal S1x43x128 .bf16) (r : Fin 43) (l : Fin 128) (f : Fin 128 → EReal) (hv : ∀ l : Fin 128, v (ix3 0 r l) = f l) :
    xpay43 v (ix2 r l) = code f (f l) * scale f := by
  rw [xpay43_at, show (fun l : Fin 128 => v (ix3 0 r l)) = f from funext hv, hv]

/-- The rows' value at an index of the quantised activations; any value past row 683. -/
def XV (x : Vec Ideal S1x683x3584 .bf16) (y : S704x3584.Idx) : EReal :=
  if h : (y 0).val < 683 then XQ x ⟨(y 0).val, h⟩ (y 1) else 0

/-- The quantised rows within the tokens' rows. -/
theorem XV_at (x : Vec Ideal S1x683x3584 .bf16) (r : Fin 704) (h : r.val < 683) (k : Fin 3584) : XV x (ix2 r k) = XQ x ⟨r.val, h⟩ k := dif_pos h

/-- The quantised entry, by its group and its lane. -/
theorem XQ_at (x : Vec Ideal S1x683x3584 .bf16) (r : Fin 683) (j : Fin 28) (b : Fin 128) (k : Fin 3584) (hk : k.val = j.val * 128 + b.val) :
    XQ x r k = code (fun l : Fin 128 => x (ix3 0 r ⟨j.val * 128 + l.val, by omega⟩)) (x (ix3 0 r ⟨j.val * 128 + b.val, by omega⟩))
      * scale (fun l : Fin 128 => x (ix3 0 r ⟨j.val * 128 + l.val, by omega⟩)) := by
  obtain ⟨kv, hkv⟩ := k
  obtain rfl : kv = j.val * 128 + b.val := hk
  have h : (j.val * 128 + b.val) / 128 = j.val := by omega
  rw [XQ]
  simp only [h]

/-- One quantised block of 128 rows, inside its rectangle. -/
theorem qX128_in (x : Vec Ideal S1x683x3584 .bf16) (r0 : Nat) (hr : r0 + 128 ≤ 683) (j : Fin 28) (A : Vec Ideal S704x3584 .bf16) (y : S704x3584.Idx)
    (h : (r0 ≤ (y 0).val ∧ (y 0).val < r0 + 128) ∧ (y 1).val / 128 = j.val) : qX128 x r0 hr j A y = XV x y := by
  obtain ⟨r, k, rfl⟩ := Cert.Val.ex2 y
  replace h : (r0 ≤ r.val ∧ r.val < r0 + 128) ∧ k.val / 128 = j.val := h
  have hkl : k.val % 128 < 128 := by omega
  rw [XV_at x r (by omega), qX128]
  refine (ov_in _ _ _ A _ (ix2 r k) (ix2 ⟨r.val - r0, by omega⟩ ⟨k.val % 128, hkl⟩ : S128x128.Idx) (fun a => by
      fin_cases a
      · show r.val = r0 + (r.val - r0); omega
      · show k.val = 128 * j.val + k.val % 128; omega)).trans ?_
  have e : (⟨r0 + (r.val - r0), by omega⟩ : Fin 683) = ⟨r.val, by omega⟩ := Fin.ext (by show r0 + (r.val - r0) = r.val; omega)
  rw [XQ_at x _ j ⟨k.val % 128, hkl⟩ k (by show k.val = j.val * 128 + k.val % 128; omega), ← e]
  exact xpay128_of _ _ _ (fun l : Fin 128 => x (ix3 0 ⟨r0 + (r.val - r0), by omega⟩ ⟨j.val * 128 + l.val, by omega⟩)) (fun l => xld128 x r0 hr j ⟨r.val - r0, by omega⟩ l)

/-- One quantised block of 128 rows, outside its rectangle, changes nothing. -/
theorem qX128_out (x : Vec Ideal S1x683x3584 .bf16) (r0 : Nat) (hr : r0 + 128 ≤ 683) (j : Fin 28) (A : Vec Ideal S704x3584 .bf16) (y : S704x3584.Idx)
    (h : ¬ ((r0 ≤ (y 0).val ∧ (y 0).val < r0 + 128) ∧ (y 1).val / 128 = j.val)) : qX128 x r0 hr j A y = A y := by
  rw [qX128]
  by_cases h0 : r0 ≤ (y 0).val ∧ (y 0).val < r0 + 128
  · exact ov_out _ _ _ _ _ y (1 : Fin 2) (show (y 1).val < 128 * j.val ∨ 128 * j.val + 128 ≤ (y 1).val by omega)
  · exact ov_out _ _ _ _ _ y (0 : Fin 2) (show (y 0).val < r0 ∨ r0 + 128 ≤ (y 0).val by omega)

/-- The blocks of a chunk of 128 rows change the quantised rows only. -/
theorem qXs128_eq (x : Vec Ideal S1x683x3584 .bf16) (r0 : Nat) (hr : r0 + 128 ≤ 683) (L : List (Fin 28)) (S : St Ideal) :
    L.foldl (fun S j => { S with xq := qX128 x r0 hr j S.xq }) S = { S with xq := L.foldl (fun A j => qX128 x r0 hr j A) S.xq } := by
  induction L generalizing S with
  | nil => rfl
  | cons a L ih => rw [List.foldl_cons, ih]; rfl

/-- The blocks of a chunk of 43 rows change the quantised rows only. -/
theorem qXs43_eq (x : Vec Ideal S1x683x3584 .bf16) (L : List (Fin 28)) (S : St Ideal) :
    L.foldl (fun S j => { S with xq := qX43 x j S.xq }) S = { S with xq := L.foldl (fun A j => qX43 x j A) S.xq } := by
  induction L generalizing S with
  | nil => rfl
  | cons a L ih => rw [List.foldl_cons, ih]; rfl

/-- A block of the last rows, at an index of those rows. -/
theorem qX43_in (x : Vec Ideal S1x683x3584 .bf16) (j : Fin 28) (A : Vec Ideal S704x3584 .bf16) (y : S704x3584.Idx)
    (h : (640 ≤ (y 0).val ∧ (y 0).val < 683) ∧ (y 1).val / 128 = j.val) : qX43 x j A y = XV x y := by
  obtain ⟨r, k, rfl⟩ := Cert.Val.ex2 y
  replace h : (640 ≤ r.val ∧ r.val < 683) ∧ k.val / 128 = j.val := h
  have hkl : k.val % 128 < 128 := by omega
  rw [XV_at x r (by omega), qX43]
  refine (ov_in _ _ _ A _ (ix2 r k) (ix2 ⟨r.val - 640, by omega⟩ ⟨k.val % 128, hkl⟩ : S44x128.Idx) (fun a => by
      fin_cases a
      · show r.val = 640 + (r.val - 640); omega
      · show k.val = 128 * j.val + k.val % 128; omega)).trans ?_
  have hu : ∀ (O : Vec Ideal S44x128 .bf16) (N : Vec Ideal S43x128 .bf16), updateSlice O N ![0, 0] slices_S44x128_S43x128_0_0 (ix2 ⟨r.val - 640, by omega⟩ ⟨k.val % 128, hkl⟩ : S44x128.Idx)
      = N (ix2 ⟨r.val - 640, by omega⟩ ⟨k.val % 128, hkl⟩ : S43x128.Idx) := fun O N => by
    rw [updateSlice, dif_pos (fun a => by
      fin_cases a
      · show 0 ≤ r.val - 640 ∧ r.val - 640 < 0 + 43; omega
      · show 0 ≤ k.val % 128 ∧ k.val % 128 < 0 + 128; omega)]
    refine congrArg N (funext fun a => Fin.ext ?_)
    fin_cases a
    · rfl
    · rfl
  rw [hu]
  have e : (⟨640 + (r.val - 640), by omega⟩ : Fin 683) = ⟨r.val, by omega⟩ := Fin.ext (by show 640 + (r.val - 640) = r.val; omega)
  rw [XQ_at x _ j ⟨k.val % 128, hkl⟩ k (by show k.val = j.val * 128 + k.val % 128; omega), ← e]
  exact xpay43_of _ _ _ (fun l : Fin 128 => x (ix3 0 ⟨640 + (r.val - 640), by omega⟩ ⟨j.val * 128 + l.val, by omega⟩)) (fun l => xld43 x j ⟨r.val - 640, by omega⟩ l)

/-- One quantised block of 43 rows, outside its rectangle, changes nothing. -/
theorem qX43_out (x : Vec Ideal S1x683x3584 .bf16) (j : Fin 28) (A : Vec Ideal S704x3584 .bf16) (y : S704x3584.Idx)
    (h : ¬ ((640 ≤ (y 0).val) ∧ (y 1).val / 128 = j.val)) : qX43 x j A y = A y := by
  rw [qX43]
  by_cases h0 : 640 ≤ (y 0).val
  · exact ov_out _ _ _ _ _ y (1 : Fin 2) (show (y 1).val < 128 * j.val ∨ 128 * j.val + 128 ≤ (y 1).val by omega)
  · exact ov_out _ _ _ _ _ y (0 : Fin 2) (show (y 0).val < 640 ∨ 640 + 44 ≤ (y 0).val by omega)

/-- After a chunk's blocks the quantised activations are the chunk's values on its rows and as before elsewhere. -/
theorem qXs128_at (x : Vec Ideal S1x683x3584 .bf16) (r0 : Nat) (hr : r0 + 128 ≤ 683) (S : St Ideal) (y : S704x3584.Idx) :
    (qXs128 x r0 hr S).xq y = if r0 ≤ (y 0).val ∧ (y 0).val < r0 + 128 then XV x y else S.xq y := by
  obtain ⟨r, k, rfl⟩ := Cert.Val.ex2 y
  have hm := mem_ks
  rw [qXs128]
  generalize ks = L at hm ⊢
  rw [qXs128_eq]
  dsimp only
  have hc := foldl_cover (fun j A => qX128 x r0 hr j A) (fun j y => (r0 ≤ (y 0).val ∧ (y 0).val < r0 + 128) ∧ (y 1).val / 128 = j.val) (XV x)
    (fun j A y h => qX128_in x r0 hr j A y h) (fun j A y h => qX128_out x r0 hr j A y h) L (ix2 r k) S.xq
  split
  next h => exact hc.2 ⟨⟨k.val / 128, by omega⟩, hm _, h, rfl⟩
  next h => exact hc.1 fun j _ hj => h hj.1

/-- The last rows' blocks, likewise (the row past the last may hold anything). -/
theorem qXs43_at (x : Vec Ideal S1x683x3584 .bf16) (S : St Ideal) (y : S704x3584.Idx) (hy : (y 0).val < 683) :
    (qXs43 x S).xq y = if 640 ≤ (y 0).val then XV x y else S.xq y := by
  obtain ⟨r, k, rfl⟩ := Cert.Val.ex2 y
  have hm := mem_ks
  rw [qXs43]
  generalize ks = L at hm ⊢
  rw [qXs43_eq]
  dsimp only
  have key : ∀ (L : List (Fin 28)) (A : Vec Ideal S704x3584 .bf16),
      ((∀ j ∈ L, ¬ (640 ≤ ((ix2 r k : S704x3584.Idx) 0).val ∧ ((ix2 r k : S704x3584.Idx) 1).val / 128 = j.val)) → L.foldl (fun A j => qX43 x j A) A (ix2 r k) = A (ix2 r k))
      ∧ ((∃ j ∈ L, 640 ≤ ((ix2 r k : S704x3584.Idx) 0).val ∧ ((ix2 r k : S704x3584.Idx) 1).val / 128 = j.val) → L.foldl (fun A j => qX43 x j A) A (ix2 r k) = XV x (ix2 r k)) := by
    intro L
    induction L with
    | nil => intro A; exact ⟨fun _ => rfl, fun ⟨j, hj, _⟩ => absurd hj List.not_mem_nil⟩
    | cons a L ih =>
      intro A
      refine ⟨fun h => ?_, fun h => ?_⟩
      · rw [List.foldl_cons, (ih _).1 fun j hj => h j (List.mem_cons_of_mem _ hj)]
        exact qX43_out x a A (ix2 r k) (h a List.mem_cons_self)
      · rw [List.foldl_cons]
        by_cases hL : ∃ j ∈ L, 640 ≤ ((ix2 r k : S704x3584.Idx) 0).val ∧ ((ix2 r k : S704x3584.Idx) 1).val / 128 = j.val
        · exact (ih _).2 hL
        · rw [(ih _).1 fun j hj hc => hL ⟨j, hj, hc⟩]
          obtain ⟨j, hj, hc⟩ := h
          rcases List.mem_cons.mp hj with rfl | hj
          · exact qX43_in x j A (ix2 r k) ⟨⟨hc.1, hy⟩, hc.2⟩
          · exact absurd ⟨j, hj, hc⟩ hL
  split
  next h => exact (key L S.xq).2 ⟨⟨k.val / 128, by omega⟩, hm _, h, rfl⟩
  next h => exact (key L S.xq).1 fun j _ hj => h hj.1

/-! ## The scaled weights -/

/-- A weight entry at its block's scale: row `128 g + o` of the scaled weights. -/
def WQ (n : Fin 17) (w : Vec Ideal S1x2x128x3584 .fp8e4m3) (ws : Vec Ideal S1x2x17x28 .f32) (y : S256x3584.Idx) : EReal :=
  w (ix4 0 ⟨(y 0).val / 128, by have := (y 0).isLt; have : (y 0).val < 256 := this; omega⟩ ⟨(y 0).val % 128, by omega⟩ (y 1))
    * ws (ix4 0 ⟨(y 0).val / 128, by have := (y 0).isLt; have : (y 0).val < 256 := this; omega⟩ n ⟨(y 1).val / 128, by have := (y 1).isLt; have : (y 1).val < 3584 := this; omega⟩)

/-- The load of one weight block, at an entry. -/
theorem wld (w : Vec Ideal S1x2x128x3584 .fp8e4m3) (g : Fin 2) (j : Fin 28) (a b : Fin 128) :
    (View.ld w (rW g j) : Vec Ideal S1x1x128x128 .fp8e4m3) (ix4 0 0 a b) = w (ix4 0 g a ⟨128 * j.val + b.val, by omega⟩) :=
  View.ld_unit_apply_of w _ _ _ _ _ fun c => by
    fin_cases c
    · rfl
    · rfl
    · show a.val = 0 + a.val; omega
    · rfl

/-- The load of one weight block's scale. -/
theorem wsld (i : grid0.Coords) (n : Fin 17) (hn : (i 1).val = n.val) (ws : Vec Ideal S1x2x17x28 .f32) (g : Fin 2) (j : Fin 28) (x : S1x1x1x1.Idx) :
    (View.ld ws (rWS i g j) : Vec Ideal S1x1x1x1 .f32) x = ws (ix4 0 g n j) :=
  View.ld_unit_apply_of ws _ _ _ _ _ fun c => by
    have h0 : (x 0).val < 1 := (x 0).isLt
    have h1 : (x 1).val < 1 := (x 1).isLt
    have h2 : (x 2).val < 1 := (x 2).isLt
    have h3 : (x 3).val < 1 := (x 3).isLt
    fin_cases c
    · show 0 = 0 + (x 0).val; omega
    · show g.val = g.val + (x 1).val; omega
    · show n.val = (Scalar.indexCast (lane i)).toNat + (x 2).val; rw [lane_toNat]; omega
    · show j.val = j.val + (x 3).val; omega

/-- One scaled weight block, inside its rectangle. -/
theorem qW_in (i : grid0.Coords) (n : Fin 17) (hn : (i 1).val = n.val) (w : Vec Ideal S1x2x128x3584 .fp8e4m3) (ws : Vec Ideal S1x2x17x28 .f32)
    (gj : Fin 2 × Fin 28) (A : Vec Ideal S256x3584 .bf16) (y : S256x3584.Idx)
    (h : (y 0).val / 128 = gj.1.val ∧ (y 1).val / 128 = gj.2.val) : qW i w ws gj A y = WQ n w ws y := by
  obtain ⟨r, k, rfl⟩ := Cert.Val.ex2 y
  obtain ⟨g, j⟩ := gj
  replace h : r.val / 128 = g.val ∧ k.val / 128 = j.val := h
  rw [qW]
  refine (ov_in _ _ _ A _ (ix2 r k) (ix2 ⟨r.val % 128, by omega⟩ ⟨k.val % 128, by omega⟩ : S128x128.Idx) (fun a => by
      fin_cases a
      · show r.val = 128 * g.val + r.val % 128; omega
      · show k.val = 128 * j.val + k.val % 128; omega)).trans ?_
  rw [wpay_at, wld, wsld i n hn, WQ]
  have e1 : (⟨r.val / 128, by omega⟩ : Fin 2) = g := Fin.ext h.1
  have e2 : (⟨k.val / 128, by omega⟩ : Fin 28) = j := Fin.ext h.2
  have e3 : (⟨128 * j.val + k.val % 128, by omega⟩ : Fin 3584) = k := Fin.ext (by show 128 * j.val + k.val % 128 = k.val; omega)
  show w (ix4 0 g _ (⟨128 * j.val + k.val % 128, _⟩ : Fin 3584)) * _ = w (ix4 0 (⟨r.val / 128, _⟩ : Fin 2) _ k) * ws (ix4 0 (⟨r.val / 128, _⟩ : Fin 2) n (⟨k.val / 128, _⟩ : Fin 28))
  rw [e1, e2, e3]
  rfl

/-- One scaled weight block, outside its rectangle, changes nothing. -/
theorem qW_out (i : grid0.Coords) (w : Vec Ideal S1x2x128x3584 .fp8e4m3) (ws : Vec Ideal S1x2x17x28 .f32)
    (gj : Fin 2 × Fin 28) (A : Vec Ideal S256x3584 .bf16) (y : S256x3584.Idx)
    (h : ¬ ((y 0).val / 128 = gj.1.val ∧ (y 1).val / 128 = gj.2.val)) : qW i w ws gj A y = A y := by
  rw [qW]
  by_cases h0 : (y 0).val / 128 = gj.1.val
  · exact ov_out _ _ _ _ _ y (1 : Fin 2) (show (y 1).val < 128 * gj.2.val ∨ 128 * gj.2.val + 128 ≤ (y 1).val by omega)
  · exact ov_out _ _ _ _ _ y (0 : Fin 2) (show (y 0).val < 128 * gj.1.val ∨ 128 * gj.1.val + 128 ≤ (y 0).val by omega)

/-- The weight blocks change the scaled weights only. -/
theorem qWs_eq (i : grid0.Coords) (w : Vec Ideal S1x2x128x3584 .fp8e4m3) (ws : Vec Ideal S1x2x17x28 .f32) (L : List (Fin 2 × Fin 28)) (S : St Ideal) :
    L.foldl (fun S gj => { S with wq := qW i w ws gj S.wq }) S = { S with wq := L.foldl (fun A gj => qW i w ws gj A) S.wq } := by
  induction L generalizing S with
  | nil => rfl
  | cons a L ih => rw [List.foldl_cons, ih]; rfl

/-- After all the blocks the scaled weights are the weights at their scales. -/
theorem qWs_at (i : grid0.Coords) (n : Fin 17) (hn : (i 1).val = n.val) (w : Vec Ideal S1x2x128x3584 .fp8e4m3) (ws : Vec Ideal S1x2x17x28 .f32) (S : St Ideal) :
    qWs i w ws S = { S with wq := WQ n w ws } := by
  have e : qWs i w ws S = { S with wq := gks.foldl (fun A gj => qW i w ws gj A) S.wq } := qWs_eq i w ws gks S
  have hm := mem_gks
  rw [e]
  generalize gks = L at hm ⊢
  refine congrArg (fun q => ({ S with wq := q } : St Ideal)) (funext fun y => ?_)
  exact (foldl_cover (fun gj A => qW i w ws gj A) (fun gj y => (y 0).val / 128 = gj.1.val ∧ (y 1).val / 128 = gj.2.val) (WQ n w ws)
    (fun gj A y h => qW_in i n hn w ws gj A y h) (fun gj A y h => qW_out i w ws gj A y h) L y S.wq).2
    ⟨(⟨(y 0).val / 128, by have := (y 0).isLt; have : (y 0).val < 256 := this; omega⟩, ⟨(y 1).val / 128, by have := (y 1).isLt; have : (y 1).val < 3584 := this; omega⟩), hm _, rfl, rfl⟩

end Cert.KernelIdeal.Val

end
-- ==== Proof.Hidden.lean ====
/- The hidden codes and scales, read at an index, after the chunks of hidden rows. -/
module

public import proofs.«01_k».proof.Proof.State
public import Idealize.ShloMosaic.Lib.Affine

@[expose] public section

set_option maxRecDepth 16384

noncomputable section

namespace Cert.KernelIdeal.Val

open Idealize.ShloMosaic Cert.KernelIdeal Cert.KernelIdeal.Body
open Cert.Val (amxv scale code)

/-! ## Words -/

/-- A chunk is active when its first row is below the expert's count. -/
theorem cnd_iff (v1 r : BitVec 32) : cnd v1 r = 1#1 ↔ r.toInt < v1.toInt := by
  rw [cnd, show ∀ X : BitVec 1, (Scalar.cmpi .ne (Scalar.extui X : BitVec 32) 0#32 = 1#1 ↔ X = 1#1) from by decide]
  simp only [Scalar.cmpi, IntOp.cmpi, BitVec.slt]
  rw [show ∀ b : Bool, (BitVec.ofBool b = 1#1 ↔ b = true) from by decide, decide_eq_true_iff]

/-- The signed less-than comparison gives one exactly when the first is less than the second. -/
theorem slt_iff (a b : BitVec 32) : IntOp.cmpi .slt a b = 1#1 ↔ a.toInt < b.toInt := by
  simp only [IntOp.cmpi, BitVec.slt]
  rw [show ∀ b : Bool, (BitVec.ofBool b = 1#1 ↔ b = true) from by decide, decide_eq_true_iff]

/-- The equality comparison gives one exactly when both sides are equal. -/
theorem eq_iff (a b : BitVec 32) : IntOp.cmpi .eq a b = 1#1 ↔ a = b := by
  simp only [IntOp.cmpi]
  rw [show ∀ b : Bool, (BitVec.ofBool b = 1#1 ↔ b = true) from by decide, beq_iff_eq]

/-- A small number's 32-bit word reads back as the number. -/
theorem ofNat_toInt (n : Nat) (h : n < 1000) : (BitVec.ofNat 32 n).toInt = n := by
  rw [BitVec.toInt_ofNat']
  simp only [Int.bmod]
  omega

/-- Small numbers with equal 32-bit words are equal. -/
theorem ofNat_inj (a b : Nat) (ha : a < 1000) (hb : b < 1000) : BitVec.ofNat 32 a = BitVec.ofNat 32 b ↔ a = b :=
  ⟨fun h => by have := congrArg BitVec.toNat h; simp only [BitVec.toNat_ofNat] at this; omega, fun h => h ▸ rfl⟩

/-- The sum of two numbers' words is the word of their sum. -/
theorem addi_ofNat (a b : Nat) : IntOp.addi (BitVec.ofNat 32 a) (BitVec.ofNat 32 b) = BitVec.ofNat 32 (a + b) := by
  show BitVec.ofNat 32 a + BitVec.ofNat 32 b = _
  rw [BitVec.ofNat_add]

/-- The row's chunk is active. -/
def act (v1 : BitVec 32) (R : Nat) : Prop := cnd v1 (BitVec.ofNat 32 (128 * (R / 128))) = 1#1

/-- It is decidable whether a row's chunk is active. -/
instance (v1 : BitVec 32) (R : Nat) : Decidable (act v1 R) := inferInstanceAs (Decidable (_ = _))

/-- A row below the count lies in an active chunk. -/
theorem act_of_lt (v1 : BitVec 32) (R : Nat) (hR : R < 1000) (h : IntOp.cmpi .slt (BitVec.ofNat 32 R) v1 = 1#1) : act v1 R := by
  rw [slt_iff, ofNat_toInt R hR] at h
  rw [act, cnd_iff, ofNat_toInt _ (by omega)]
  omega

/-- If some row's chunk is active, the expert's size is positive. -/
theorem act_zero (v1 : BitVec 32) (R : Nat) (hR : R < 1000) (h : act v1 R) : cnd v1 0#32 = 1#1 := by
  rw [act, cnd_iff, ofNat_toInt _ (by omega)] at h
  rw [cnd_iff, show (0#32 : BitVec 32).toInt = 0 from rfl]
  omega

/-! ## The hidden value of a row -/

/-- The hidden value at a row and lane: gate times its logistic times up on the expert's rows, zero past them. -/
def HV (xq : Vec Ideal S704x3584 .bf16) (W : Vec Ideal S256x3584 .bf16) (v1 : BitVec 32) (R : Fin 704) (l : Fin 128) : EReal :=
  Scalar.select (IntOp.cmpi .slt (BitVec.ofNat 32 R.val) v1)
    ((∑ k : Fin 3584, xq (ix2 R k) * W (ix2 ⟨l.val, by omega⟩ k)) * Ideal.logistic (∑ k : Fin 3584, xq (ix2 R k) * W (ix2 ⟨l.val, by omega⟩ k))
      * ∑ k : Fin 3584, xq (ix2 R k) * W (ix2 ⟨128 + l.val, by omega⟩ k)) 0

/-- The hidden values of a row whose chunk is not active are zero. -/
theorem HV_inactive (xq : Vec Ideal S704x3584 .bf16) (W : Vec Ideal S256x3584 .bf16) (v1 : BitVec 32) (R : Fin 704) (h : ¬ act v1 R.val) (l : Fin 128) :
    HV xq W v1 R l = 0 := by
  rw [HV, Scalar.select]
  exact if_neg fun hh => h (act_of_lt v1 R.val (by omega) hh)

section
variable [Facts]
open Facts₀ Facts

/-- The load of the whole scaled weights' buffer is its contents. -/
theorem wqAll_eq (S : St Ideal) : wqAll S = S.wq := by
  rw [wqAll]
  funext y
  exact View.ld_unit_apply_of S.wq _ _ _ y y fun a => by fin_cases a <;> exact (Nat.zero_add _).symm

/-- The hidden values of a chunk of 128 rows, at an entry, are `HV` there. -/
theorem hid128_eq (v1 : BitVec 32) (r0 : Nat) (hr : r0 + 128 ≤ 683) (S : St Ideal) (r : Fin 128) (l : Fin 128) :
    hid128 (BitVec.ofNat 32 r0) v1 (View.ld S.xq (rQrow128 r0 hr)) (wqAll S) (ix2 r l) = HV S.xq S.wq v1 ⟨r0 + r.val, by omega⟩ l := by
  have hx : ∀ k : Fin 3584, (View.ld S.xq (rQrow128 r0 hr) : Vec Ideal S128x3584 .bf16) (ix2 r k) = S.xq (ix2 ⟨r0 + r.val, by omega⟩ k) := fun k =>
    View.ld_unit_apply_of S.xq _ _ _ _ _ fun a => by
      fin_cases a
      · rfl
      · exact (Nat.zero_add _).symm
  rw [wqAll_eq, hid128_at, addi_ofNat, HV]
  generalize (View.ld S.xq (rQrow128 r0 hr) : Vec Ideal S128x3584 .bf16) = A at hx ⊢
  simp only [hx]

/-- The hidden values of a chunk of 64 rows, at an entry, are `HV` there. -/
theorem hid64_eq (v1 : BitVec 32) (S : St Ideal) (r : Fin 64) (l : Fin 128) :
    hid64 640#32 v1 (View.ld S.xq (Rect.unit (s := S704x3584) ![640, 0] S64x3584.size inb_S704x3584_S64x3584_640_0)) (wqAll S) (ix2 r l)
      = HV S.xq S.wq v1 ⟨640 + r.val, by omega⟩ l := by
  have hx : ∀ k : Fin 3584, (View.ld S.xq (Rect.unit (s := S704x3584) ![640, 0] S64x3584.size inb_S704x3584_S64x3584_640_0) : Vec Ideal S64x3584 .bf16) (ix2 r k)
      = S.xq (ix2 ⟨640 + r.val, by omega⟩ k) := fun k =>
    View.ld_unit_apply_of S.xq _ _ _ _ _ fun a => by
      fin_cases a
      · rfl
      · exact (Nat.zero_add _).symm
  rw [wqAll_eq, hid64_at, show (640#32 : BitVec 32) = BitVec.ofNat 32 640 from rfl, addi_ofNat, HV]
  generalize (View.ld S.xq (Rect.unit (s := S704x3584) ![640, 0] S64x3584.size inb_S704x3584_S64x3584_640_0) : Vec Ideal S64x3584 .bf16) = A at hx ⊢
  simp only [hx]

/-- Bounded numbers with equal values are equal. -/
theorem fin_eq {n : Nat} {a b : Nat} (ha : a < n) (hb : b < n) (h : a = b) : (⟨a, ha⟩ : Fin n) = ⟨b, hb⟩ := Fin.ext h

/-- A chunk's codes at an index. -/
theorem dH128_hc (i : grid0.Coords) (v1 : BitVec 32) (r0 : Nat) (hr : r0 + 128 ≤ 683) (S : St Ideal) (R : Fin 704) (l : Fin 128) :
    (dH128 i v1 r0 hr S).hc (ix2 R l) = if r0 ≤ R.val ∧ R.val < r0 + 128 then code (HV S.xq S.wq v1 R) (HV S.xq S.wq v1 R l) else S.hc (ix2 R l) := by
  rw [dH128]
  dsimp only
  split
  next h =>
    refine (ov_in _ _ _ S.hc _ (ix2 R l) (ix2 ⟨R.val - r0, by omega⟩ l : S128x128.Idx) (fun a => by
      fin_cases a
      · show R.val = r0 + (R.val - r0); omega
      · exact (Nat.zero_add _).symm)).trans ?_
    rw [hcod128_at]
    simp only [hid128_eq]
    rw [show (⟨r0 + (R.val - r0), by omega⟩ : Fin 704) = R from Fin.ext (by show r0 + (R.val - r0) = R.val; omega)]
  next h =>
    exact ov_out _ _ _ S.hc _ (ix2 R l) (0 : Fin 2) (show R.val < r0 ∨ r0 + 128 ≤ R.val by omega)

/-- The last chunk's codes at an index. -/
theorem dH64_hc (i : grid0.Coords) (v1 : BitVec 32) (S : St Ideal) (R : Fin 704) (l : Fin 128) :
    (dH64 i v1 S).hc (ix2 R l) = if 640 ≤ R.val then code (HV S.xq S.wq v1 R) (HV S.xq S.wq v1 R l) else S.hc (ix2 R l) := by
  rw [dH64]
  dsimp only
  split
  next h =>
    refine (ov_in _ _ _ S.hc _ (ix2 R l) (ix2 ⟨R.val - 640, by omega⟩ l : S64x128.Idx) (fun a => by
      fin_cases a
      · show R.val = 640 + (R.val - 640); omega
      · exact (Nat.zero_add _).symm)).trans ?_
    rw [hcod64_at]
    simp only [hid64_eq]
    rw [show (⟨640 + (R.val - 640), by omega⟩ : Fin 704) = R from Fin.ext (by show 640 + (R.val - 640) = R.val; omega)]
  next h =>
    exact ov_out _ _ _ S.hc _ (ix2 R l) (0 : Fin 2) (show R.val < 640 ∨ 640 + 64 ≤ R.val by omega)

/-- The choice by lane takes the new value exactly in the point's own lane. -/
theorem sel_lane (i : grid0.Coords) (n0 n : Fin 17) (hn : (i 1).val = n0.val) (a b : EReal) :
    Scalar.select (IntOp.cmpi .eq (BitVec.ofNat 32 n.val) (lane i)) a b = if n = n0 then a else b := by
  rw [Scalar.select]
  refine if_congr ((eq_iff _ _).trans ?_) rfl rfl
  rw [lane, ofNat_inj _ _ (by omega) (by omega), hn]
  exact Fin.ext_iff.symm

/-- A chunk's scales at an index. -/
theorem dH128_scl (i : grid0.Coords) (n0 : Fin 17) (hn : (i 1).val = n0.val) (v1 : BitVec 32) (r0 : Nat) (hr : r0 + 128 ≤ 683) (S : St Ideal) (R : Fin 683) (n : Fin 17) :
    (dH128 i v1 r0 hr S).scl (ix3 0 R n) = if (r0 ≤ R.val ∧ R.val < r0 + 128) ∧ n = n0 then scale (HV S.xq S.wq v1 ⟨R.val, by omega⟩) else S.scl (ix3 0 R n) := by
  rw [dH128]
  dsimp only
  by_cases h : r0 ≤ R.val ∧ R.val < r0 + 128
  · have hold : (View.ld S.scl (rS128 r0 hr) : Vec Ideal S1x128x17 .f32) (ix3 0 ⟨R.val - r0, by omega⟩ n) = S.scl (ix3 0 R n) :=
      View.ld_unit_apply_of S.scl _ _ _ _ _ fun a => by
        fin_cases a
        · rfl
        · show R.val = r0 + (R.val - r0); omega
        · exact (Nat.zero_add _).symm
    refine (ov_in _ _ _ S.scl _ (ix3 0 R n) (ix3 0 ⟨R.val - r0, by omega⟩ n : S1x128x17.Idx) (fun a => by
      fin_cases a
      · rfl
      · show R.val = r0 + (R.val - r0); omega
      · exact (Nat.zero_add _).symm)).trans ?_
    rw [hscl128_at, hold, sel_lane i n0 n hn]
    simp only [hid128_eq, h, true_and, and_self]
    rw [show (⟨r0 + (R.val - r0), by omega⟩ : Fin 704) = ⟨R.val, by omega⟩ from Fin.ext (by show r0 + (R.val - r0) = R.val; omega)]
  · rw [if_neg fun hh => h hh.1]
    exact ov_out _ _ _ S.scl _ (ix3 0 R n) (1 : Fin 3) (show R.val < r0 ∨ r0 + 128 ≤ R.val by omega)

/-- The last chunk's scales at an index. -/
theorem dH64_scl (i : grid0.Coords) (n0 : Fin 17) (hn : (i 1).val = n0.val) (v1 : BitVec 32) (S : St Ideal) (R : Fin 683) (n : Fin 17) :
    (dH64 i v1 S).scl (ix3 0 R n) = if 640 ≤ R.val ∧ n = n0 then scale (HV S.xq S.wq v1 ⟨R.val, by omega⟩) else S.scl (ix3 0 R n) := by
  rw [dH64]
  dsimp only
  by_cases h : 640 ≤ R.val
  · have hold : (View.ld S.scl (Rect.unit (s := S1x683x17) ![0, 640, 0] S1x43x17.size inb_S1x683x17_S1x43x17_0_640_0) : Vec Ideal S1x43x17 .f32) (ix3 0 ⟨R.val - 640, by omega⟩ n) = S.scl (ix3 0 R n) :=
      View.ld_unit_apply_of S.scl _ _ _ _ _ fun a => by
        fin_cases a
        · rfl
        · show R.val = 640 + (R.val - 640); omega
        · exact (Nat.zero_add _).symm
    refine (ov_in _ _ _ S.scl _ (ix3 0 R n) (ix3 0 ⟨R.val - 640, by omega⟩ n : S1x43x17.Idx) (fun a => by
      fin_cases a
      · rfl
      · show R.val = 640 + (R.val - 640); omega
      · exact (Nat.zero_add _).symm)).trans ?_
    rw [hscl64_at, hold, sel_lane i n0 n hn]
    simp only [hid64_eq, h, true_and]
    rw [show (⟨640 + (R.val - 640), by omega⟩ : Fin 704) = ⟨R.val, by omega⟩ from Fin.ext (by show 640 + (R.val - 640) = R.val; omega)]
  · rw [if_neg fun hh => h hh.1]
    exact ov_out _ _ _ S.scl _ (ix3 0 R n) (1 : Fin 3) (show R.val < 640 ∨ 640 + 43 ≤ R.val by omega)

/-! ## The chunks one after another -/

/-- The buffers after the first `k` chunks, those active. -/
structure Upto (n0 : Fin 17) (v1 : BitVec 32) (k : Nat) (S T : St Ideal) : Prop where
  xq : T.xq = S.xq
  wq : T.wq = S.wq
  hc : ∀ (R : Fin 704) (l : Fin 128), T.hc (ix2 R l) = if R.val / 128 < k ∧ act v1 R.val then code (HV S.xq S.wq v1 R) (HV S.xq S.wq v1 R l) else S.hc (ix2 R l)
  scl : ∀ (R : Fin 683) (n : Fin 17), T.scl (ix3 0 R n) = if (R.val / 128 < k ∧ act v1 R.val) ∧ n = n0 then scale (HV S.xq S.wq v1 ⟨R.val, by omega⟩) else S.scl (ix3 0 R n)

/-- Before the first chunk nothing has changed. -/
theorem upto_zero (n0 : Fin 17) (v1 : BitVec 32) (S : St Ideal) : Upto n0 v1 0 S S where
  xq := rfl
  wq := rfl
  hc R l := (if_neg fun h => absurd h.1 (Nat.not_lt_zero _)).symm
  scl R n := (if_neg fun h => absurd h.1.1 (Nat.not_lt_zero _)).symm

/-- A chunk that is skipped, its rows being past the size, keeps the claim. -/
theorem upto_skip (n0 : Fin 17) (v1 : BitVec 32) (k : Nat) (S T : St Ideal) (h : Upto n0 v1 k S T)
    (hc : ¬ cnd v1 (BitVec.ofNat 32 (128 * k)) = 1#1) : Upto n0 v1 (k + 1) S T := by
  have key : ∀ R : Nat, (R / 128 < k + 1 ∧ act v1 R) ↔ (R / 128 < k ∧ act v1 R) := fun R =>
    ⟨fun ⟨h1, h2⟩ => ⟨by
      by_contra h3
      have h4 : R / 128 = k := by omega
      rw [act, h4] at h2; exact hc h2, h2⟩, fun ⟨h1, h2⟩ => ⟨by omega, h2⟩⟩
  refine ⟨h.xq, h.wq, fun R l => (h.hc R l).trans (if_congr (key _).symm rfl rfl), fun R n => (h.scl R n).trans (if_congr (and_congr (key _).symm Iff.rfl) rfl rfl)⟩

/-- A whole chunk of 128 rows extends the claim by its rows. -/
theorem upto_128 (i : grid0.Coords) (n0 : Fin 17) (hn : (i 1).val = n0.val) (v1 : BitVec 32) (k : Nat) (hr : 128 * k + 128 ≤ 683) (S T : St Ideal) (h : Upto n0 v1 k S T)
    (hc : cnd v1 (BitVec.ofNat 32 (128 * k)) = 1#1) : Upto n0 v1 (k + 1) S (dH128 i v1 (128 * k) hr T) := by
  have hact : ∀ R : Nat, R / 128 = k → act v1 R := fun R h => by rw [act, h]; exact hc
  refine ⟨h.xq, h.wq, fun R l => ?_, fun R n => ?_⟩
  · rw [dH128_hc, h.xq, h.wq, h.hc]
    by_cases h1 : R.val / 128 = k
    · rw [if_pos (by omega), if_pos ⟨by omega, hact _ h1⟩]
    · rw [if_neg (by omega)]
      exact if_congr (and_congr_left fun _ => by omega) rfl rfl
  · rw [dH128_scl i n0 hn, h.xq, h.wq, h.scl]
    by_cases h1 : R.val / 128 = k
    · by_cases h2 : n = n0
      · rw [if_pos ⟨by omega, h2⟩, if_pos ⟨⟨by omega, hact _ h1⟩, h2⟩]
      · rw [if_neg fun h => h2 h.2, if_neg fun h => h2 h.2, if_neg fun h => h2 h.2]
    · rw [if_neg (by omega)]
      exact if_congr (and_congr_left fun _ => and_congr_left fun _ => by omega) rfl rfl

/-- The last chunk, of 64 rows, extends the claim to all rows. -/
theorem upto_64 (i : grid0.Coords) (n0 : Fin 17) (hn : (i 1).val = n0.val) (v1 : BitVec 32) (S T : St Ideal) (h : Upto n0 v1 5 S T)
    (hc : cnd v1 (BitVec.ofNat 32 (128 * 5)) = 1#1) : Upto n0 v1 6 S (dH64 i v1 T) := by
  have hact : ∀ R : Nat, R / 128 = 5 → act v1 R := fun R h => by rw [act, h]; exact hc
  refine ⟨h.xq, h.wq, fun R l => ?_, fun R n => ?_⟩
  · rw [dH64_hc, h.xq, h.wq, h.hc]
    by_cases h1 : R.val / 128 = 5
    · rw [if_pos (by omega), if_pos ⟨by omega, hact _ h1⟩]
    · rw [if_neg (by omega)]
      exact if_congr (and_congr_left fun _ => by omega) rfl rfl
  · rw [dH64_scl i n0 hn, h.xq, h.wq, h.scl]
    by_cases h1 : R.val / 128 = 5
    · by_cases h2 : n = n0
      · rw [if_pos ⟨by omega, h2⟩, if_pos ⟨⟨by omega, hact _ h1⟩, h2⟩]
      · rw [if_neg fun h => h2 h.2, if_neg fun h => h2 h.2, if_neg fun h => h2 h.2]
    · rw [if_neg (by omega)]
      exact if_congr (and_congr_left fun _ => and_congr_left fun _ => by omega) rfl rfl

/-- All the chunks. -/
theorem dH0_upto (i : grid0.Coords) (n0 : Fin 17) (hn : (i 1).val = n0.val) (v1 : BitVec 32) (S : St Ideal) : Upto n0 v1 6 S (dH0 i v1 S) := by
  have h5 : ∀ T, Upto n0 v1 5 S T → Upto n0 v1 6 S (dH5 i v1 T) := fun T h => by
    rw [dH5]; split
    next hc => exact upto_64 i n0 hn v1 S T h hc
    next hc => exact upto_skip n0 v1 5 S T h hc
  have h4 : ∀ T, Upto n0 v1 4 S T → Upto n0 v1 6 S (dH4 i v1 T) := fun T h => by
    rw [dH4]; split
    next hc => exact h5 _ (upto_128 i n0 hn v1 4 (by decide) S T h hc)
    next hc => exact h5 _ (upto_skip n0 v1 4 S T h hc)
  have h3 : ∀ T, Upto n0 v1 3 S T → Upto n0 v1 6 S (dH3 i v1 T) := fun T h => by
    rw [dH3]; split
    next hc => exact h4 _ (upto_128 i n0 hn v1 3 (by decide) S T h hc)
    next hc => exact h4 _ (upto_skip n0 v1 3 S T h hc)
  have h2 : ∀ T, Upto n0 v1 2 S T → Upto n0 v1 6 S (dH2 i v1 T) := fun T h => by
    rw [dH2]; split
    next hc => exact h3 _ (upto_128 i n0 hn v1 2 (by decide) S T h hc)
    next hc => exact h3 _ (upto_skip n0 v1 2 S T h hc)
  have h1 : ∀ T, Upto n0 v1 1 S T → Upto n0 v1 6 S (dH1 i v1 T) := fun T h => by
    rw [dH1]; split
    next hc => exact h2 _ (upto_128 i n0 hn v1 1 (by decide) S T h hc)
    next hc => exact h2 _ (upto_skip n0 v1 1 S T h hc)
  rw [dH0]; split
  next hc => exact h1 _ (upto_128 i n0 hn v1 0 (by decide) S S (upto_zero n0 v1 S) hc)
  next hc => exact h1 _ (upto_skip n0 v1 0 S S (upto_zero n0 v1 S) hc)

/-! ## A group of zeros -/

/-- A group of zeros has largest magnitude zero. -/
theorem amxv_zero : amxv (fun _ => 0) = 0 := by
  have h0 : FloatOps.absf (F := Ideal) (φ := .f32) (0 : EReal) = (0 : EReal) := by
    show max (0 : EReal) (-0) = 0
    rw [neg_zero, max_self]
  rw [amxv, Finset.fold_const, if_neg (Finset.univ_nonempty.ne_empty), h0]
  · rw [show Ideal.ofBits FTy.f32 4286578688#32 = ⊥ from Cert.Val.ofBits_bot, max_eq_right bot_le, zero_mul]
  · rw [max_left_comm, max_self]

/-- A group of zeros has scale one. -/
theorem scale_zero : scale (fun _ => 0) = 1 := by
  rw [scale, amxv_zero, Cert.Val.rS, if_pos]
  simp [Ideal.ofBits, Ideal.ieee, -EReal.coe_mul]

/-- A group of zeros has codes zero. -/
theorem code_zero : code (fun _ => 0) 0 = 0 := by
  have h1 : Ideal.ofBits FTy.f32 3286237184#32 ≤ 0 := by
    simp [Ideal.ofBits, Ideal.ieee, -EReal.coe_mul]
  have h2 : 0 ≤ Ideal.ofBits FTy.f32 1138753536#32 := by
    simp [Ideal.ofBits, Ideal.ieee, -EReal.coe_mul]
  rw [code, zero_mul, max_eq_right h1, min_eq_right h2]

/-- The clearing, the weights and the hidden rows keep the quantised token rows. -/
theorem dW0_xq (i : grid0.Coords) (n0 : Fin 17) (hn : (i 1).val = n0.val) (w : Vec Ideal S1x2x128x3584 .fp8e4m3) (ws : Vec Ideal S1x2x17x28 .f32) (v1 : BitVec 32) (S : St Ideal) :
    (dW0 i w ws v1 S).xq = S.xq := by
  rw [dW0]; split
  · rw [(dH0_upto i n0 hn v1 _).xq, qWs_at i n0 hn]; rfl
  · rw [(dH0_upto i n0 hn v1 _).xq]; rfl

/-- Cleared hidden codes are zero. -/
theorem dZ_hc (S : St Ideal) (y : S704x128.Idx) : (dZ S).hc y = 0 := by
  rw [dZ]
  dsimp only
  refine (ov_in _ _ _ S.hc _ y y fun a => by fin_cases a <;> exact (Nat.zero_add _).symm).trans ?_
  rw [shapeCast_self]
  show Ideal.ofBits .fp8e4m3 0x00#8 = 0
  simp [Ideal.ofBits, Ideal.ieee, Ideal.e4m3fn]

/-- The hidden codes after a point's weights and row chunks: those of `HV`, at each entry. -/
theorem dW0_hc (i : grid0.Coords) (n0 : Fin 17) (hn : (i 1).val = n0.val) (w : Vec Ideal S1x2x128x3584 .fp8e4m3) (ws : Vec Ideal S1x2x17x28 .f32) (v1 : BitVec 32) (S : St Ideal)
    (R : Fin 704) (l : Fin 128) :
    (dW0 i w ws v1 S).hc (ix2 R l) = code (HV S.xq (WQ n0 w ws) v1 R) (HV S.xq (WQ n0 w ws) v1 R l) := by
  have hin : ¬ act v1 R.val → code (HV S.xq (WQ n0 w ws) v1 R) (HV S.xq (WQ n0 w ws) v1 R l) = 0 := fun h => by
    rw [show HV S.xq (WQ n0 w ws) v1 R = fun _ => 0 from funext (HV_inactive _ _ v1 R h)]
    exact code_zero
  have h6 : R.val / 128 < 6 := by omega
  rw [dW0]; split
  next hc =>
    rw [qWs_at i n0 hn, (dH0_upto i n0 hn v1 _).hc]
    by_cases ha : act v1 R.val
    · rw [if_pos ⟨h6, ha⟩]; rfl
    · rw [if_neg fun h => ha h.2, hin ha]; exact dZ_hc S _
  next hc =>
    have ha : ¬ act v1 R.val := fun h => hc (act_zero v1 R.val (by omega) h)
    rw [(dH0_upto i n0 hn v1 _).hc, if_neg fun h => ha h.2, hin ha]; exact dZ_hc S _

/-- The scales after a point's weights and row chunks: the point's own lane, on the active rows,
    holds the scales of `HV`; the other entries stay. -/
theorem dW0_scl (i : grid0.Coords) (n0 : Fin 17) (hn : (i 1).val = n0.val) (w : Vec Ideal S1x2x128x3584 .fp8e4m3) (ws : Vec Ideal S1x2x17x28 .f32) (v1 : BitVec 32) (S : St Ideal)
    (R : Fin 683) (n : Fin 17) :
    (dW0 i w ws v1 S).scl (ix3 0 R n) = if act v1 R.val ∧ n = n0 then scale (HV S.xq (WQ n0 w ws) v1 ⟨R.val, by omega⟩) else S.scl (ix3 0 R n) := by
  have h6 : R.val / 128 < 6 := by omega
  rw [dW0]; split
  next hc =>
    rw [qWs_at i n0 hn, (dH0_upto i n0 hn v1 _).scl]
    exact if_congr (and_congr_left fun _ => and_iff_right h6) rfl rfl
  next hc =>
    have ha : ¬ act v1 R.val := fun h => hc (act_zero v1 R.val (by omega) h)
    rw [(dH0_upto i n0 hn v1 _).scl, if_neg fun h => ha h.1.2, if_neg fun h => ha h.1]; rfl

end

end Cert.KernelIdeal.Val

end
-- ==== Proof.Point.lean ====
/- A grid point's work, at an index: the codes and scales it leaves are the specification's at the point's expert and lane block. -/
module

public import proofs.«01_k».proof.Proof.Hidden
public import proofs.«01_k».proof.Proof.Spec

@[expose] public section

set_option maxRecDepth 16384

noncomputable section

namespace Cert.KernelIdeal.Val

open Idealize.ShloMosaic Cert.KernelIdeal Cert.KernelIdeal.Body
open Cert.Val (amxv scale code xgrp xq wq dot hid hgrp)

section
variable [Facts]
open Facts₀ Facts

/-- The buffers after the activations' first `k` chunks, those active. -/
structure XUpto (x : Vec Ideal S1x683x3584 .bf16) (v1 : BitVec 32) (k : Nat) (S T : St Ideal) : Prop where
  scl : T.scl = S.scl
  xq : ∀ (R : Fin 704) (c : Fin 3584), R.val < 683 → T.xq (ix2 R c) = if R.val / 128 < k ∧ act v1 R.val then XV x (ix2 R c) else S.xq (ix2 R c)

/-- Before the first chunk nothing is quantised. -/
theorem xupto_zero (x : Vec Ideal S1x683x3584 .bf16) (v1 : BitVec 32) (S : St Ideal) : XUpto x v1 0 S S where
  scl := rfl
  xq R c _ := (if_neg fun h => absurd h.1 (Nat.not_lt_zero _)).symm

/-- A chunk that is skipped, its rows being past the size, keeps the claim. -/
theorem xupto_skip (x : Vec Ideal S1x683x3584 .bf16) (v1 : BitVec 32) (k : Nat) (S T : St Ideal) (h : XUpto x v1 k S T)
    (hc : ¬ cnd v1 (BitVec.ofNat 32 (128 * k)) = 1#1) : XUpto x v1 (k + 1) S T := by
  have key : ∀ R : Nat, (R / 128 < k + 1 ∧ act v1 R) ↔ (R / 128 < k ∧ act v1 R) := fun R =>
    ⟨fun ⟨h1, h2⟩ => ⟨by
      by_contra h3
      have h4 : R / 128 = k := by omega
      rw [act, h4] at h2; exact hc h2, h2⟩, fun ⟨h1, h2⟩ => ⟨by omega, h2⟩⟩
  exact ⟨h.scl, fun R c hR => (h.xq R c hR).trans (if_congr (key _).symm rfl rfl)⟩

/-- Quantising 128 rows keeps the scales' block. -/
theorem qXs128_scl (x : Vec Ideal S1x683x3584 .bf16) (r0 : Nat) (hr : r0 + 128 ≤ 683) (S : St Ideal) : (qXs128 x r0 hr S).scl = S.scl := by
  rw [qXs128]
  generalize ks = L
  rw [qXs128_eq]

/-- Quantising 43 rows keeps the scales' block. -/
theorem qXs43_scl (x : Vec Ideal S1x683x3584 .bf16) (S : St Ideal) : (qXs43 x S).scl = S.scl := by
  rw [qXs43]
  generalize ks = L
  rw [qXs43_eq]

/-- A whole chunk of 128 rows extends the claim by its rows. -/
theorem xupto_128 (x : Vec Ideal S1x683x3584 .bf16) (v1 : BitVec 32) (k : Nat) (hr : 128 * k + 128 ≤ 683) (S T : St Ideal) (h : XUpto x v1 k S T)
    (hc : cnd v1 (BitVec.ofNat 32 (128 * k)) = 1#1) : XUpto x v1 (k + 1) S (qXs128 x (128 * k) hr T) := by
  have hact : ∀ R : Nat, R / 128 = k → act v1 R := fun R h => by rw [act, h]; exact hc
  refine ⟨(qXs128_scl x _ hr T).trans h.scl, fun R c hR => ?_⟩
  rw [qXs128_at, h.xq R c hR]
  show (if 128 * k ≤ R.val ∧ R.val < 128 * k + 128 then _ else _) = _
  by_cases h1 : R.val / 128 = k
  · rw [if_pos (by omega), if_pos ⟨by omega, hact _ h1⟩]
  · rw [if_neg (by omega)]
    exact if_congr (and_congr_left fun _ => by omega) rfl rfl

/-- The last chunk, of 43 rows, extends the claim to all rows. -/
theorem xupto_43 (x : Vec Ideal S1x683x3584 .bf16) (v1 : BitVec 32) (S T : St Ideal) (h : XUpto x v1 5 S T)
    (hc : cnd v1 (BitVec.ofNat 32 (128 * 5)) = 1#1) : XUpto x v1 6 S (qXs43 x T) := by
  have hact : ∀ R : Nat, R / 128 = 5 → act v1 R := fun R h => by rw [act, h]; exact hc
  refine ⟨(qXs43_scl x T).trans h.scl, fun R c hR => ?_⟩
  rw [qXs43_at x T (ix2 R c) hR, h.xq R c hR]
  show (if 640 ≤ R.val then _ else _) = _
  by_cases h1 : R.val / 128 = 5
  · rw [if_pos (by omega), if_pos ⟨by omega, hact _ h1⟩]
  · rw [if_neg (by omega)]
    exact if_congr (and_congr_left fun _ => by omega) rfl rfl

/-- An expert's first point: the activations' chunks, then the rest. -/
theorem dX0_eq (i : grid0.Coords) (x : Vec Ideal S1x683x3584 .bf16) (w : Vec Ideal S1x2x128x3584 .fp8e4m3) (ws : Vec Ideal S1x2x17x28 .f32) (v1 : BitVec 32) (S : St Ideal) :
    ∃ T, XUpto x v1 6 S T ∧ dX0 i x w ws v1 S = dW0 i w ws v1 T := by
  have h5 : ∀ T, XUpto x v1 5 S T → ∃ U, XUpto x v1 6 S U ∧ dX5 i x w ws v1 T = dW0 i w ws v1 U := fun T h => by
    rw [dX5]; split
    next hc => exact ⟨_, xupto_43 x v1 S T h hc, rfl⟩
    next hc => exact ⟨_, xupto_skip x v1 5 S T h hc, rfl⟩
  have h4 : ∀ T, XUpto x v1 4 S T → ∃ U, XUpto x v1 6 S U ∧ dX4 i x w ws v1 T = dW0 i w ws v1 U := fun T h => by
    rw [dX4]; split
    next hc => exact h5 _ (xupto_128 x v1 4 (by decide) S T h hc)
    next hc => exact h5 _ (xupto_skip x v1 4 S T h hc)
  have h3 : ∀ T, XUpto x v1 3 S T → ∃ U, XUpto x v1 6 S U ∧ dX3 i x w ws v1 T = dW0 i w ws v1 U := fun T h => by
    rw [dX3]; split
    next hc => exact h4 _ (xupto_128 x v1 3 (by decide) S T h hc)
    next hc => exact h4 _ (xupto_skip x v1 3 S T h hc)
  have h2 : ∀ T, XUpto x v1 2 S T → ∃ U, XUpto x v1 6 S U ∧ dX2 i x w ws v1 T = dW0 i w ws v1 U := fun T h => by
    rw [dX2]; split
    next hc => exact h3 _ (xupto_128 x v1 2 (by decide) S T h hc)
    next hc => exact h3 _ (xupto_skip x v1 2 S T h hc)
  have h1 : ∀ T, XUpto x v1 1 S T → ∃ U, XUpto x v1 6 S U ∧ dX1 i x w ws v1 T = dW0 i w ws v1 U := fun T h => by
    rw [dX1]; split
    next hc => exact h2 _ (xupto_128 x v1 1 (by decide) S T h hc)
    next hc => exact h2 _ (xupto_skip x v1 1 S T h hc)
  rw [dX0]; split
  next hc => exact h1 _ (xupto_128 x v1 0 (by decide) S S (xupto_zero x v1 S) hc)
  next hc => exact h1 _ (xupto_skip x v1 0 S S (xupto_zero x v1 S) hc)

/-- The scales set at an expert's first point are one. -/
theorem dO_scl (S : St Ideal) (y : S1x683x17.Idx) : (dO S).scl y = 1 := by
  rw [dO]
  dsimp only
  refine (ov_in _ _ _ S.scl _ y y fun a => by fin_cases a <;> exact (Nat.zero_add _).symm).trans ?_
  exact Ideal.ofBits_one_f32

/-- A point is an expert's first exactly when its lane block is zero. -/
theorem cond1_iff (i : grid0.Coords) : k0_cond1 i = 1#1 ↔ (i 1).val = 0 := by
  rw [show k0_cond1 i = Scalar.cmpi .ne (Scalar.extui (Scalar.cmpi .eq (BitVec.ofNat 32 (i 1).val) 0#32) : BitVec 32) 0#32 from rfl,
    show ∀ X : BitVec 1, (Scalar.cmpi .ne (Scalar.extui X : BitVec 32) 0#32 = 1#1 ↔ X = 1#1) from by decide]
  have h17 : (i 1).val < 17 := (i 1).isLt
  exact (eq_iff _ _).trans (ofNat_inj _ 0 (by omega) (by omega))

/-- The copied codes at an index. -/
theorem outCod_at (S : St Ideal) (R : Fin 683) (l : Fin 128) : outCod S (ix3 0 R l) = S.hc (ix2 ⟨R.val, by omega⟩ l) := by
  have h : (View.ld S.hc (Rect.unit (s := S704x128) ![0, 0] S683x128.size inb_S704x128_S683x128_0_0) : Vec Ideal S683x128 .fp8e4m3) (ix2 R l) = S.hc (ix2 ⟨R.val, by omega⟩ l) :=
    View.ld_unit_apply_of S.hc _ _ _ _ _ fun a => by fin_cases a <;> exact (Nat.zero_add _).symm
  rw [outCod, ← h]
  generalize (View.ld S.hc (Rect.unit (s := S704x128) ![0, 0] S683x128.size inb_S704x128_S683x128_0_0) : Vec Ideal S683x128 .fp8e4m3) = A
  pointwise []

section
variable (xA : Vec Ideal ⟨3, ![24, 683, 3584]⟩ .bf16) (sz : Vec Ideal ⟨1, ![24]⟩ .i32)
  (wA : Vec Ideal ⟨4, ![24, 2, 2176, 3584]⟩ .fp8e4m3) (wsA : Vec Ideal ⟨4, ![24, 2, 17, 28]⟩ .f32)

/-- The point's hidden value is the specification's. -/
theorem HV_eq (e : Fin 24) (n0 : Fin 17) (w : Vec Ideal S1x2x128x3584 .fp8e4m3) (ws : Vec Ideal S1x2x17x28 .f32)
    (hw : ∀ g a k, w (ix4 0 g a k) = wA (ix4 e g ⟨n0.val * 128 + a.val, by omega⟩ k)) (hs : ∀ g n j, ws (ix4 0 g n j) = wsA (ix4 e g n j))
    (X : Vec Ideal S704x3584 .bf16) (R : Fin 683) (hX : act (sz (ix1 e)) R.val → ∀ c, X (ix2 ⟨R.val, by omega⟩ c) = xq xA e R c) (l : Fin 128) :
    HV X (WQ n0 w ws) (sz (ix1 e)) ⟨R.val, by omega⟩ l = hid xA sz wA wsA e R ⟨n0.val * 128 + l.val, by omega⟩ := by
  rw [HV, hid, Scalar.select, Scalar.select]
  by_cases hc : IntOp.cmpi .slt (BitVec.ofNat 32 R.val) (sz (ix1 e)) = 1
  · have hx := hX (act_of_lt _ R.val (by omega) hc)
    have hW : ∀ (g : Fin 2) (o : Fin 256) (ho : o.val = 128 * g.val + l.val) (k : Fin 3584), WQ n0 w ws (ix2 o k) = wq wA wsA e g ⟨n0.val * 128 + l.val, by omega⟩ k := fun g o ho k => by
      have e1 : (⟨o.val / 128, by omega⟩ : Fin 2) = g := Fin.ext (by show o.val / 128 = g.val; omega)
      have e2 : (⟨o.val % 128, by omega⟩ : Fin 128) = l := Fin.ext (by show o.val % 128 = l.val; omega)
      have e3 : (⟨(n0.val * 128 + l.val) / 128, by omega⟩ : Fin 17) = n0 := Fin.ext (by show (n0.val * 128 + l.val) / 128 = n0.val; omega)
      show w (ix4 0 (⟨o.val / 128, _⟩ : Fin 2) (⟨o.val % 128, _⟩ : Fin 128) k) * ws (ix4 0 (⟨o.val / 128, _⟩ : Fin 2) n0 _) = _
      rw [e1, e2, hw, hs, wq]
      show _ = _ * wsA (ix4 e g (⟨(n0.val * 128 + l.val) / 128, _⟩ : Fin 17) _)
      rw [e3]
      rfl
    have hd : ∀ (g : Fin 2) (o : Fin 256) (ho : o.val = 128 * g.val + l.val), (∑ k : Fin 3584, X (ix2 ⟨R.val, by omega⟩ k) * WQ n0 w ws (ix2 o k))
        = dot xA wA wsA e R g ⟨n0.val * 128 + l.val, by omega⟩ := fun g o ho => by
      rw [dot]
      exact Finset.sum_congr rfl fun k _ => by rw [hx, hW g o ho]
    rw [if_pos hc, if_pos hc, hd 0 _ (by show l.val = 128 * 0 + l.val; omega), hd 1 _ (by show 128 + l.val = 128 * 1 + l.val; omega)]
  · exact (if_neg hc).trans (if_neg hc).symm

/-- A point's work. -/
theorem point (e : Fin 24) (n0 : Fin 17) (i : grid0.Coords) (hn : (i 1).val = n0.val) (x : Vec Ideal S1x683x3584 .bf16) (w : Vec Ideal S1x2x128x3584 .fp8e4m3) (ws : Vec Ideal S1x2x17x28 .f32)
    (v1 : BitVec 32) (S : St Ideal) (hx : ∀ R c, x (ix3 0 R c) = xA (ix3 e R c))
    (hw : ∀ g a k, w (ix4 0 g a k) = wA (ix4 e g ⟨n0.val * 128 + a.val, by omega⟩ k)) (hs : ∀ g n j, ws (ix4 0 g n j) = wsA (ix4 e g n j)) (hv : v1 = sz (ix1 e))
    (hX : n0.val ≠ 0 → ∀ R : Fin 683, act (sz (ix1 e)) R.val → ∀ c, S.xq (ix2 ⟨R.val, by omega⟩ c) = xq xA e R c)
    (h4 : n0.val ≠ 0 → ∀ (R : Fin 683) (n : Fin 17), S.scl (ix3 0 R n) = if n.val < n0.val then scale (hgrp xA sz wA wsA e R n) else 1) :
    (∀ R : Fin 683, act (sz (ix1 e)) R.val → ∀ c, (dG0 i x w ws v1 S).xq (ix2 ⟨R.val, by omega⟩ c) = xq xA e R c)
    ∧ (∀ (R : Fin 683) (n : Fin 17), (dG0 i x w ws v1 S).scl (ix3 0 R n) = if n.val ≤ n0.val then scale (hgrp xA sz wA wsA e R n) else 1)
    ∧ (∀ (R : Fin 683) (l : Fin 128), outCod (dG0 i x w ws v1 S) (ix3 0 R l) = code (hgrp xA sz wA wsA e R n0) (hid xA sz wA wsA e R ⟨n0.val * 128 + l.val, by omega⟩)) := by
  subst hv
  have hT : ∃ T : St Ideal, dG0 i x w ws (sz (ix1 e)) S = dW0 i w ws (sz (ix1 e)) T
      ∧ (∀ R : Fin 683, act (sz (ix1 e)) R.val → ∀ c, T.xq (ix2 ⟨R.val, by omega⟩ c) = xq xA e R c)
      ∧ (∀ (R : Fin 683) (n : Fin 17), T.scl (ix3 0 R n) = if n.val < n0.val then scale (hgrp xA sz wA wsA e R n) else 1) := by
    by_cases h0 : n0.val = 0
    · obtain ⟨T, hT, hE⟩ := dX0_eq i x w ws (sz (ix1 e)) (dO S)
      refine ⟨T, ?_, fun R ha c => ?_, fun R n => ?_⟩
      · rw [dG0, if_pos ((cond1_iff i).mpr (hn.trans h0)), hE]
      · rw [hT.xq ⟨R.val, by omega⟩ c R.isLt, if_pos ⟨by show R.val / 128 < 6; omega, ha⟩, XV_at x ⟨R.val, by omega⟩ R.isLt c, XQ, xq]
        simp only [hx]
        rfl
      · rw [hT.scl, dO_scl, if_neg (by omega)]
    · refine ⟨S, ?_, hX h0, h4 h0⟩
      rw [dG0, if_neg fun h => h0 (hn.symm.trans ((cond1_iff i).mp h))]
  obtain ⟨T, hE, hTx, hTs⟩ := hT
  rw [hE]
  have hH : ∀ R : Fin 683, HV T.xq (WQ n0 w ws) (sz (ix1 e)) ⟨R.val, by omega⟩ = hgrp xA sz wA wsA e R n0 := fun R =>
    funext fun l => HV_eq xA sz wA wsA e n0 w ws hw hs T.xq R (hTx R) l
  refine ⟨fun R ha c => ?_, fun R n => ?_, fun R l => ?_⟩
  · rw [dW0_xq i n0 hn]; exact hTx R ha c
  · rw [dW0_scl i n0 hn, hH]
    by_cases hnn : n = n0
    · subst hnn
      rw [if_pos (le_refl _)]
      by_cases ha : act (sz (ix1 e)) R.val
      · rw [if_pos ⟨ha, rfl⟩]
      · rw [if_neg fun h => ha h.1, hTs, if_neg (lt_irrefl _), ← hH R,
          show HV T.xq (WQ n w ws) (sz (ix1 e)) ⟨R.val, by omega⟩ = fun _ => 0 from funext (HV_inactive _ _ _ _ ha), scale_zero]
    · rw [if_neg fun h => hnn h.2, hTs]
      have : n.val ≠ n0.val := fun h => hnn (Fin.ext h)
      exact if_congr (by omega) rfl rfl
  · rw [outCod_at, dW0_hc i n0 hn, hH]
    rfl

end
end

end Cert.KernelIdeal.Val

end
-- ==== Proof.KVal.lean ====
/- The kernel's run: its two results are the specification's of its arguments. -/
module

public import proofs.«01_k».proof.Proof.Point
public import proofs.«01_k».proof.Proof.Run
public import Idealize.ShloMosaic.Lib.Pipeline.Value

@[expose] public section

set_option maxRecDepth 16384

noncomputable section

namespace Cert.KernelIdeal.Run

open Idealize.ShloMosaic Idealize.ShloMosaic.TcCoe Idealize.SL.Sem
open Idealize.ShloMosaic.Pipeline (Dat RDat Cfg Window)
open Cert.KernelIdeal Cert.KernelIdeal.Body Cert.KernelIdeal.Gen Cert.KernelIdeal.Val
open Cert.Val (code scale hid hgrp outC outS)

variable (m : (ℓ : Loc nD τ sig) → Buf (Elt Ideal) ℓ) (ρ : Dev nD → PrngReg)

/-- The tokens at launch. -/
abbrev a0 (c : Dev nD) : Vec Ideal S24x683x3584 .bf16 := m ((c : Thread nD τ).loc main_arg0)
/-- The experts' sizes at launch. -/
abbrev a1 (c : Dev nD) : Vec Ideal S24 .i32 := m ((c : Thread nD τ).loc main_arg1)
/-- The weights' codes at launch. -/
abbrev a2 (c : Dev nD) : Vec Ideal S24x2x2176x3584 .fp8e4m3 := m ((c : Thread nD τ).loc main_arg2)
/-- The weights' scales at launch. -/
abbrev a3 (c : Dev nD) : Vec Ideal S24x2x17x28 .f32 := m ((c : Thread nD τ).loc main_arg3)

/-- A point's expert, as a word, reads back as the expert. -/
theorem toNat0 (i : grid0.Coords) : (BitVec.ofNat 32 (i 0).val).toNat = (i 0).val := by
  have h : (i 0).val < 24 := (i 0).isLt
  rw [BitVec.toNat_ofNat]; exact Nat.mod_eq_of_lt (by omega)
/-- A point's lane block, as a word, reads back as the lane block. -/
theorem toNat1 (i : grid0.Coords) : (BitVec.ofNat 32 (i 1).val).toNat = (i 1).val := by
  have h : (i 1).val < 17 := (i 1).isLt
  rw [BitVec.toNat_ofNat]; exact Nat.mod_eq_of_lt (by omega)

/-- The block of operand 0 at a point's coordinates. -/
theorem tr0 (i : grid0.Coords) : cc0_transform_0 i = ![(i 0).val, 0, 0] := by
  rw [show cc0_transform_0 i = ![(BitVec.ofNat 32 (i 0).val).toNat, 0, 0] from rfl, toNat0]
/-- The block of operand 1 at a point's coordinates. -/
theorem tr1 (i : grid0.Coords) : cc0_transform_1 i = ![(i 0).val, 0, (i 1).val, 0] := by
  rw [show cc0_transform_1 i = ![(BitVec.ofNat 32 (i 0).val).toNat, 0, (BitVec.ofNat 32 (i 1).val).toNat, 0] from rfl, toNat0, toNat1]
/-- The block of operand 2 at a point's coordinates. -/
theorem tr2 (i : grid0.Coords) : cc0_transform_2 i = ![(i 0).val, 0, 0, 0] := by
  rw [show cc0_transform_2 i = ![(BitVec.ofNat 32 (i 0).val).toNat, 0, 0, 0] from rfl, toNat0]
/-- The block of operand 3 at a point's coordinates. -/
theorem tr3 (i : grid0.Coords) : cc0_transform_3 i = ![(i 0).val, 0, (i 1).val] := by
  rw [show cc0_transform_3 i = ![(BitVec.ofNat 32 (i 0).val).toNat, 0, (BitVec.ofNat 32 (i 1).val).toNat] from rfl, toNat0, toNat1]
/-- The block of operand 4 at a point's coordinates. -/
theorem tr4 (i : grid0.Coords) : cc0_transform_4 i = ![(i 0).val, 0, 0] := by
  rw [show cc0_transform_4 i = ![(BitVec.ofNat 32 (i 0).val).toNat, 0, 0] from rfl, toNat0]

/-- The block of operand 0 at point t: the expert is t / 17, the lane block t % 17. -/
theorem ix0 (t : Fin grid0.N) : ((cfgA m).win (0 : Fin 5)).index t = ![t.val / 17, 0, 0] := by
  show cc0_transform_0 (grid0.coords t) = _
  rw [tr0, coords0]
/-- The block of operand 1 at point t: the expert is t / 17, the lane block t % 17. -/
theorem ix1' (t : Fin grid0.N) : ((cfgA m).win (1 : Fin 5)).index t = ![t.val / 17, 0, t.val % 17, 0] := by
  show cc0_transform_1 (grid0.coords t) = _
  rw [tr1, coords0, coords1]
/-- The block of operand 2 at point t: the expert is t / 17, the lane block t % 17. -/
theorem ix2' (t : Fin grid0.N) : ((cfgA m).win (2 : Fin 5)).index t = ![t.val / 17, 0, 0, 0] := by
  show cc0_transform_2 (grid0.coords t) = _
  rw [tr2, coords0]
/-- The block of operand 3 at point t: the expert is t / 17, the lane block t % 17. -/
theorem ix3' (t : Fin grid0.N) : ((cfgA m).win (3 : Fin 5)).index t = ![t.val / 17, 0, t.val % 17] := by
  show cc0_transform_3 (grid0.coords t) = _
  rw [tr3, coords0, coords1]
/-- The block of operand 4 at point t: the expert is t / 17, the lane block t % 17. -/
theorem ix4' (t : Fin grid0.N) : ((cfgA m).win (4 : Fin 5)).index t = ![t.val / 17, 0, 0] := by
  show cc0_transform_4 (grid0.coords t) = _
  rw [tr4, coords0]

/-- The blocks of a point, at an index. -/
theorem xb_at (c : Dev nD) (t : Fin grid0.N) (e : Fin 24) (he : e.val = t.val / 17) (R : Fin 683) (k : Fin 3584) :
    xb m c t (ix3 0 R k) = a0 m c (ix3 e R k) := by
  refine congrArg (a0 m c) (a₁ := (((cfgA m).win (0 : Fin 5)).blk t).view.emb (ix3 0 R k : S1x683x3584.Idx)) (funext fun a => Fin.ext ?_)
  refine (Window.rect_emb_val ((cfgA m).win (0 : Fin 5)) t (ix3 0 R k : S1x683x3584.Idx) a rfl).trans ?_
  rw [ix0]
  fin_cases a
  · show t.val / 17 * 1 + 0 = e.val; omega
  · show 0 * 683 + R.val = R.val; omega
  · show 0 * 3584 + k.val = k.val; omega

/-- The weights' block of a point, at an index, is the argument's entry of the expert and the lane block. -/
theorem wb_at (c : Dev nD) (t : Fin grid0.N) (e : Fin 24) (he : e.val = t.val / 17) (n0 : Fin 17) (hn : n0.val = t.val % 17) (g : Fin 2) (a : Fin 128) (k : Fin 3584) :
    wb m c t (ix4 0 g a k) = a2 m c (ix4 e g ⟨n0.val * 128 + a.val, by omega⟩ k) := by
  refine congrArg (a2 m c) (a₁ := (((cfgA m).win (1 : Fin 5)).blk t).view.emb (ix4 0 g a k : S1x2x128x3584.Idx)) (funext fun b => Fin.ext ?_)
  refine (Window.rect_emb_val ((cfgA m).win (1 : Fin 5)) t (ix4 0 g a k : S1x2x128x3584.Idx) b rfl).trans ?_
  rw [ix1']
  fin_cases b
  · show t.val / 17 * 1 + 0 = e.val; omega
  · show 0 * 2 + g.val = g.val; omega
  · show t.val % 17 * 128 + a.val = n0.val * 128 + a.val; omega
  · show 0 * 3584 + k.val = k.val; omega

/-- The weight scales' block of a point, at an index, is the argument's entry of the expert. -/
theorem sb_at (c : Dev nD) (t : Fin grid0.N) (e : Fin 24) (he : e.val = t.val / 17) (g : Fin 2) (n : Fin 17) (j : Fin 28) :
    sb m c t (ix4 0 g n j) = a3 m c (ix4 e g n j) := by
  refine congrArg (a3 m c) (a₁ := (((cfgA m).win (2 : Fin 5)).blk t).view.emb (ix4 0 g n j : S1x2x17x28.Idx)) (funext fun b => Fin.ext ?_)
  refine (Window.rect_emb_val ((cfgA m).win (2 : Fin 5)) t (ix4 0 g n j : S1x2x17x28.Idx) b rfl).trans ?_
  rw [ix2']
  fin_cases b
  · show t.val / 17 * 1 + 0 = e.val; omega
  · show 0 * 2 + g.val = g.val; omega
  · show 0 * 17 + n.val = n.val; omega
  · show 0 * 28 + j.val = j.val; omega

/-- The size a point reads from the table is its expert's. -/
theorem tbl_at (c : Dev nD) (t : Fin grid0.N) (e : Fin 24) (he : e.val = t.val / 17) : tblAt (grid0.coords t) (tbl m) = a1 m c (ix1 e) := by
  obtain rfl : c = 0 := Subsingleton.elim _ _
  rw [tblAt]
  refine (View.ld_unit_apply_of (tbl m) _ _ _ _ (ix1 e : S24.Idx) fun a => ?_).trans rfl
  fin_cases a
  show e.val = (Scalar.indexCast (BitVec.ofNat 32 (grid0.coords t 0).val)).toNat + 0
  rw [show (Scalar.indexCast (BitVec.ofNat 32 (grid0.coords t 0).val)).toNat = (BitVec.ofNat 32 (grid0.coords t 0).val).toNat from rfl, toNat0, coords0]
  omega

/-- What is claimed of the run: the codes and scales a point leaves, and the activations' rows quantised for an expert's later points. -/
def stVal (c : Dev nD) : Step m c where
  P3 t X := ∀ (e : Fin 24) (n0 : Fin 17), e.val = t.val / 17 → n0.val = t.val % 17 → ∀ (R : Fin 683) (l : Fin 128),
    X (ix3 0 R l) = code (hgrp (a0 m c) (a1 m c) (a2 m c) (a3 m c) e R n0) (hid (a0 m c) (a1 m c) (a2 m c) (a3 m c) e R ⟨n0.val * 128 + l.val, by omega⟩)
  P4 t X := ∀ (e : Fin 24), e.val = t.val / 17 → ∀ (R : Fin 683) (n : Fin 17),
    X (ix3 0 R n) = if n.val ≤ t.val % 17 then scale (hgrp (a0 m c) (a1 m c) (a2 m c) (a3 m c) e R n) else 1
  PX k X := k % 17 ≠ 0 → ∀ (e : Fin 24), e.val = k / 17 → ∀ R : Fin 683, act (a1 m c (ix1 e)) R.val → ∀ j, X (ix2 ⟨R.val, by omega⟩ j) = Cert.Val.xq (a0 m c) e R j
  start X h := absurd rfl h
  step t S hX h4 := by
    have hN : grid0.N = 408 := N_0
    have ht : t.val < 408 := hN ▸ t.isLt
    have hp := fun (e : Fin 24) (n0 : Fin 17) (he : e.val = t.val / 17) (hn : n0.val = t.val % 17) =>
      point (a0 m c) (a1 m c) (a2 m c) (a3 m c) e n0 (grid0.coords t) ((coords1 t).trans hn.symm) (xb m c t) (wb m c t) (sb m c t) (tblAt (grid0.coords t) (tbl m)) S
        (xb_at m c t e he) (wb_at m c t e he n0 hn) (sb_at m c t e he) (tbl_at m c t e he)
        (fun h R ha j => hX (hn ▸ h) e he R ha j)
        (fun h R n => by
          have h' : t.val % 17 ≠ 0 := hn ▸ h
          refine (h4 h' e (by show e.val = (t.val - 1) / 17; omega) R n).trans (if_congr ?_ rfl rfl)
          show n.val ≤ (t.val - 1) % 17 ↔ n.val < n0.val
          omega)
    refine ⟨fun hk e he R ha j => ?_, fun e he R n => ?_, fun e n0 he hn R l => ?_⟩
    · exact (hp e ⟨t.val % 17, by omega⟩ (by omega) rfl).1 R ha j
    · exact (hp e ⟨t.val % 17, by omega⟩ he rfl).2.1 R n
    · exact (hp e n0 he hn).2.2 R l

/-- Every point writes its codes back. -/
theorem flush3 (t : Fin (cfgA m).N) : ((cfgA m).win (3 : Fin 5)).flush t = true := by
  unfold Window.flush
  rw [Bool.and_eq_true]
  refine ⟨rfl, ?_⟩
  rw [Bool.or_eq_true]
  by_cases h : t.val + 1 = (cfgA m).N
  · left; exact decide_eq_true h
  · right
    refine decide_eq_true ⟨lt_of_le_of_ne t.isLt h, fun hh => ?_⟩
    rw [ix3', ix3'] at hh
    have h0 : (t.val + 1) / 17 = t.val / 17 := congrFun hh (0 : Fin 3)
    have h1 : (t.val + 1) % 17 = t.val % 17 := congrFun hh (2 : Fin 3)
    omega

/-- An expert's last point writes its scales back. -/
theorem flush4' (t : Fin (cfgA m).N) (h16 : t.val % 17 = 16) : ((cfgA m).win (4 : Fin 5)).flush t = true := by
  unfold Window.flush
  rw [Bool.and_eq_true]
  refine ⟨rfl, ?_⟩
  rw [Bool.or_eq_true]
  by_cases h : t.val + 1 = (cfgA m).N
  · left; exact decide_eq_true h
  · right
    refine decide_eq_true ⟨lt_of_le_of_ne t.isLt h, fun hh => ?_⟩
    rw [ix4', ix4'] at hh
    have h0 : (t.val + 1) / 17 = t.val / 17 := congrFun hh (0 : Fin 3)
    omega

section
variable (c : Dev nD) (after : (w' : Fin (cfgA m).W) → Fin (cfgA m).N → ((cfgA m).win w').block.Idx → Elt Ideal ((cfgA m).win w').elt)

/-- The codes' array, from what each point left. -/
theorem arr3 (h : ∀ t, (stVal m c).P3 t (after (3 : Fin 5) t)) :
    ((rdat (stVal m) c).withAfter after).arrAt (3 : Fin 5) (cfgA m).N = outC (a0 m c) (a1 m c) (a2 m c) (a3 m c) := by
  have hN : grid0.N = 408 := N_0
  refine Dat.arrAt_eq_of_cover ((rdat (stVal m) c).withAfter after) (3 : Fin 5) (outC (a0 m c) (a1 m c) (a2 m c) (a3 m c)) (fun t hf => ?_) (fun i => ?_)
  · funext y
    have ht : t.val < 408 := hN ▸ t.isLt
    obtain ⟨z, R, l, hy⟩ := Cert.Val.ex3 (y : S1x683x128.Idx)
    obtain rfl : z = 0 := Subsingleton.elim _ _
    have he : (((cfgA m).win (3 : Fin 5)).blk t).view.emb y = (ix3 ⟨t.val / 17, by omega⟩ R ⟨t.val % 17 * 128 + l.val, by omega⟩ : S24x683x2176.Idx) := by
      funext a
      refine Fin.ext ((Window.rect_emb_val ((cfgA m).win (3 : Fin 5)) t y a rfl).trans ?_)
      rw [ix3', hy]
      fin_cases a
      · show t.val / 17 * 1 + 0 = t.val / 17; omega
      · show 0 * 683 + R.val = R.val; omega
      · rfl
    refine Eq.trans (b := after (3 : Fin 5) t y) rfl (Eq.trans ?_ (congrArg (outC (a0 m c) (a1 m c) (a2 m c) (a3 m c)) he).symm)
    refine Eq.trans (congrArg (after (3 : Fin 5) t) hy) ((h t ⟨t.val / 17, by omega⟩ ⟨t.val % 17, by omega⟩ rfl rfl R l).trans ?_)
    rw [outC]
    have e1 : (⟨(t.val % 17 * 128 + l.val) / 128, by omega⟩ : Fin 17) = ⟨t.val % 17, by omega⟩ := Fin.ext (by show (t.val % 17 * 128 + l.val) / 128 = t.val % 17; omega)
    show _ = code (hgrp _ _ _ _ _ _ (⟨(t.val % 17 * 128 + l.val) / 128, _⟩ : Fin 17)) _
    rw [e1]
    rfl
  · obtain ⟨e, R, o, rfl⟩ := Cert.Val.ex3 (i : S24x683x2176.Idx)
    refine ⟨⟨e.val * 17 + o.val / 128, by show _ < grid0.N; omega⟩, flush3 m _, ?_⟩
    refine (Window.emb_mem_blk_iff ((cfgA m).win (3 : Fin 5)) _ (ix3 e R o : S24x683x2176.Idx) rfl).mpr fun a => ?_
    rw [ix3']
    fin_cases a
    · show (e.val * 17 + o.val / 128) / 17 * 1 ≤ e.val ∧ e.val < (e.val * 17 + o.val / 128) / 17 * 1 + 1; omega
    · show 0 * 683 ≤ R.val ∧ R.val < 0 * 683 + 683; omega
    · show (e.val * 17 + o.val / 128) % 17 * 128 ≤ o.val ∧ o.val < (e.val * 17 + o.val / 128) % 17 * 128 + 128; omega

/-- The scales' array, from what each expert's last point left. -/
theorem arr4 (h : ∀ t, ((cfgA m).win (4 : Fin 5)).flush t = true → (stVal m c).P4 t (after (4 : Fin 5) t)) :
    ((rdat (stVal m) c).withAfter after).arrAt (4 : Fin 5) (cfgA m).N = outS (a0 m c) (a1 m c) (a2 m c) (a3 m c) := by
  have hN : grid0.N = 408 := N_0
  refine Dat.arrAt_eq_of_cover ((rdat (stVal m) c).withAfter after) (4 : Fin 5) (outS (a0 m c) (a1 m c) (a2 m c) (a3 m c)) (fun t hf => ?_) (fun i => ?_)
  · funext y
    have ht : t.val < 408 := hN ▸ t.isLt
    have h16 : t.val % 17 = 16 := by
      by_contra h16
      rw [flush4 t h16] at hf
      exact Bool.false_ne_true hf
    obtain ⟨z, R, n, hy⟩ := Cert.Val.ex3 (y : S1x683x17.Idx)
    obtain rfl : z = 0 := Subsingleton.elim _ _
    have he : (((cfgA m).win (4 : Fin 5)).blk t).view.emb y = (ix3 ⟨t.val / 17, by omega⟩ R n : S24x683x17.Idx) := by
      funext a
      refine Fin.ext ((Window.rect_emb_val ((cfgA m).win (4 : Fin 5)) t y a rfl).trans ?_)
      rw [ix4', hy]
      fin_cases a
      · show t.val / 17 * 1 + 0 = t.val / 17; omega
      · show 0 * 683 + R.val = R.val; omega
      · show 0 * 17 + n.val = n.val; omega
    refine Eq.trans (b := after (4 : Fin 5) t y) rfl (Eq.trans ?_ (congrArg (outS (a0 m c) (a1 m c) (a2 m c) (a3 m c)) he).symm)
    refine Eq.trans (congrArg (after (4 : Fin 5) t) hy) ((h t hf ⟨t.val / 17, by omega⟩ rfl R n).trans ?_)
    rw [if_pos (by omega)]
    rfl
  · obtain ⟨e, R, n, rfl⟩ := Cert.Val.ex3 (i : S24x683x17.Idx)
    refine ⟨⟨e.val * 17 + 16, by show _ < grid0.N; omega⟩, flush4' m _ (by show (e.val * 17 + 16) % 17 = 16; omega), ?_⟩
    refine (Window.emb_mem_blk_iff ((cfgA m).win (4 : Fin 5)) _ (ix3 e R n : S24x683x17.Idx) rfl).mpr fun a => ?_
    rw [ix4']
    fin_cases a
    · show (e.val * 17 + 16) / 17 * 1 ≤ e.val ∧ e.val < (e.val * 17 + 16) / 17 * 1 + 1; omega
    · show 0 * 683 ≤ R.val ∧ R.val < 0 * 683 + 683; omega
    · show 0 * 17 ≤ n.val ∧ n.val < 0 * 17 + 17; omega

end

/-- The kernel's run: its two results are the specification's of its arguments, which stay. -/
theorem run_value : θ_run defs (onTc (τ := τ) (main (F := Ideal))) ⟨m, fun _ => 0, ρ⟩ fun r => ∀ c : Dev nD,
      r.2.mem ((c : Thread nD τ).loc main_v0_0) = outC (a0 m c) (a1 m c) (a2 m c) (a3 m c)
      ∧ r.2.mem ((c : Thread nD τ).loc main_v0_1) = outS (a0 m c) (a1 m c) (a2 m c) (a3 m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => by
    obtain ⟨after, hL, hA⟩ := h.1.exists_exact c
    refine ⟨(hA (3 : Fin 5)).trans (arr3 m c after fun t => ?_), (hA (4 : Fin 5)).trans (arr4 m c after fun t hf => ?_),
      kept0 (stVal m) r h.1 c, kept1 (stVal m) r h.1 c, kept2 (stVal m) r h.1 c, kept3 (stVal m) r h.1 c⟩
    · obtain ⟨Y, -, hY⟩ := hL (3 : Fin 5) t (flush3 m t)
      rw [after3] at hY; exact hY
    · obtain ⟨Y, -, hY⟩ := hL (4 : Fin 5) t hf
      rw [after4] at hY; exact hY) (run_main ρ (stVal m))

end Cert.KernelIdeal.Run

end
-- ==== Proof.RefX.lean ====
/- What the reference computes: its payloads read at an index. -/
module

public import proofs.«01_k».proof.Proof.Quant
public import proofs.«01_k».proof.Proof.Gen.ReferenceIdeal.Frame

@[expose] public section

set_option maxRecDepth 16384

noncomputable section

namespace Cert.ReferenceIdeal.Val

open Idealize.ShloMosaic Cert.ReferenceIdeal Cert.ReferenceIdeal.Gen
open Cert.Val (amxv scale code xgrp hgrp sT iT eT ofBits_eq mul_gen trunc_gen ext_gen)

variable (x : Vec Ideal S24x683x3584 .bf16) (w : Vec Ideal S24x2x2176x3584 .fp8e4m3) (ws : Vec Ideal S24x2x17x28 .f32)
  (z : Vec Ideal S24x1x1 .i32)

/-- The tokens in groups, at an entry. -/
theorem pay6_at (e : Fin 24) (r : Fin 683) (j : Fin 28) (l : Fin 128) : k0_pay6 x (ix4 e r j l) = xgrp x e r j l := by
  pointwise [k0_pay6]
  rfl

/-- A token group's maximum of magnitudes is the fold of max over its 128 lanes. -/
theorem fold_gen (u : FVec Ideal S24x683x28x128 .f32) (e : Fin 24) (r : Fin 683) (j : Fin 28) :
    multiReduction .maximumf [3] S24x683x28 (absf u) 0xFF800000#32 reduces_S24x683x28x128_S24x683x28 (.inl rfl) rfl (ix3 e r j)
      = Finset.fold max (Ideal.ofBits FTy.f32 4286578688#32) (fun l => FloatOps.absf (F := Ideal) (φ := .f32) (u (ix4 e r j l))) Finset.univ := by
  pointwise []

/-- The groups' values with a unit axis added, at a group. -/
theorem col_gen (v : FVec Ideal S24x683x28 .f32) (e : Fin 24) (r : Fin 683) (j : Fin 28) :
    shapeCast S24x683x28x1 v shapeCasts_S24x683x28_S24x683x28x1 (ix4 e r j 0) = v (ix3 e r j) := by
  pointwise []

/-- The token groups' scaled maximum, as its operations. -/
theorem pay7_eq : k0_pay7 x = mulf (shapeCast S24x683x28x1 (multiReduction .maximumf [3] S24x683x28 (absf (k0_pay6 x)) 0xFF800000#32 reduces_S24x683x28x128_S24x683x28 (.inl rfl) rfl) shapeCasts_S24x683x28_S24x683x28x1)
      (broadcast S24x683x28x1 (Scalar.ofBits .f32 0x3B124925#32)) := rfl

/-- The token groups' scaled maximum, at a group, is `amxv` of the group. -/
theorem pay7_at (e : Fin 24) (r : Fin 683) (j : Fin 28) : k0_pay7 x (ix4 e r j 0) = amxv (xgrp x e r j) := by
  rw [pay7_eq, mul_gen, col_gen, fold_gen, ofBits_eq, amxv]
  simp only [pay6_at]

/-- The token groups' scale, as its operations. -/
theorem pay12_eq : k0_pay12 x = truncf .bf16 (sT (k0_pay7 x)) bitsLt_bf16_f32 := rfl

/-- The token groups' scale, at a group, is the specification's. -/
theorem pay12_at (e : Fin 24) (r : Fin 683) (j : Fin 28) : k0_pay12 x (ix4 e r j 0) = scale (xgrp x e r j) := by
  rw [pay12_eq, trunc_gen, Cert.Val.sT_at, pay7_at, scale]

/-- A product clipped between two bounds, at an entry. -/
theorem cod_gen (u : FVec Ideal S24x683x28x128 .f32) (t : FVec Ideal S24x683x28x1 .f32) (a b : EReal) (i : S24x683x28x128.Idx) :
    (truncf .fp8e4m3 (minimumf (broadcast S24x683x28x128 b : FVec Ideal S24x683x28x128 .f32) (maximumf (broadcast S24x683x28x128 a : FVec Ideal S24x683x28x128 .f32) (mulf u (broadcastTo S24x683x28x128 t broadcasts_S24x683x28x1_S24x683x28x128)))) bitsLt_fp8e4m3_f32 : FVec Ideal S24x683x28x128 .fp8e4m3) i
      = min b (max a (u i * t (ix4 (i 0) (i 1) (i 2) 0))) := by
  pointwise []

/-- The tokens' codes, as their operations. -/
theorem pay11_eq : k0_pay11 x = extf .bf16 (truncf .fp8e4m3 (minimumf (broadcast S24x683x28x128 (Scalar.ofBits .f32 0x43E00000#32)) (maximumf (broadcast S24x683x28x128 (Scalar.ofBits .f32 0xC3E00000#32)) (mulf (k0_pay6 x) (broadcastTo S24x683x28x128 (iT (k0_pay7 x)) broadcasts_S24x683x28x1_S24x683x28x128)))) bitsLt_fp8e4m3_f32 : FVec Ideal S24x683x28x128 .fp8e4m3) bitsLt_fp8e4m3_bf16 := rfl

/-- The tokens' codes, at an entry, are the specification's. -/
theorem pay11_at (e : Fin 24) (r : Fin 683) (j : Fin 28) (l : Fin 128) :
    k0_pay11 x (ix4 e r j l) = code (xgrp x e r j) (xgrp x e r j l) := by
  rw [pay11_eq, ext_gen]
  refine (cod_gen (k0_pay6 x) (iT (k0_pay7 x)) _ _ (ix4 e r j l)).trans ?_
  rw [ofBits_eq, ofBits_eq, pay6_at, Cert.Val.iT_at, code]
  rw [show k0_pay7 x (ix4 (ix4 e r j l 0) (ix4 e r j l 1) (ix4 e r j l 2) 0) = amxv (xgrp x e r j) from pay7_at x e r j]

end Cert.ReferenceIdeal.Val

end
-- ==== Proof.RefH.lean ====
/- What the reference computes: the hidden values, and the two results, read at an index. -/
module

public import proofs.«01_k».proof.Proof.RefX

@[expose] public section

set_option maxRecDepth 16384

noncomputable section

namespace Cert.ReferenceIdeal.Val

open Idealize.ShloMosaic Cert.ReferenceIdeal Cert.ReferenceIdeal.Gen
open Cert.Val (amxv scale code rI xgrp hgrp xq wq dot hid outC outS sT iT eT ofBits_eq mul_gen trunc_gen ext_gen)

variable (x : Vec Ideal S24x683x3584 .bf16) (w : Vec Ideal S24x2x2176x3584 .fp8e4m3) (ws : Vec Ideal S24x2x17x28 .f32)
  (z : Vec Ideal S24x1x1 .i32)

/-- The hidden values over any codes and scales. -/
theorem hid_gen (a : FVec Ideal S24x683x28x128 .bf16) (b : FVec Ideal S24x683x28x1 .bf16) (e : Fin 24) (r : Fin 683) (j : Fin 17) (l : Fin 128) :
    k0_pay13 a b w ws z (ix4 e r j l) = Scalar.select (IntOp.cmpi .slt (BitVec.ofNat 32 r.val) (z (ix3 e 0 0)))
      ((∑ k : Fin 3584, a (ix4 e r ⟨k.val / 128, by omega⟩ ⟨k.val % 128, by omega⟩) * b (ix4 e r ⟨k.val / 128, by omega⟩ 0)
          * (w (ix4 e 0 ⟨j.val * 128 + l.val, by omega⟩ k) * ws (ix4 e 0 j ⟨k.val / 128, by omega⟩)))
        * Ideal.logistic (∑ k : Fin 3584, a (ix4 e r ⟨k.val / 128, by omega⟩ ⟨k.val % 128, by omega⟩) * b (ix4 e r ⟨k.val / 128, by omega⟩ 0)
          * (w (ix4 e 0 ⟨j.val * 128 + l.val, by omega⟩ k) * ws (ix4 e 0 j ⟨k.val / 128, by omega⟩)))
        * ∑ k : Fin 3584, a (ix4 e r ⟨k.val / 128, by omega⟩ ⟨k.val % 128, by omega⟩) * b (ix4 e r ⟨k.val / 128, by omega⟩ 0)
          * (w (ix4 e 1 ⟨j.val * 128 + l.val, by omega⟩ k) * ws (ix4 e 1 j ⟨k.val / 128, by omega⟩))) 0 := by
  pointwise [k0_pay13]

/-- The reference's product with the gate or up weights, at an entry, is the specification's. -/
theorem dot_at (e : Fin 24) (r : Fin 683) (g : Fin 2) (j : Fin 17) (l : Fin 128) :
    (∑ k : Fin 3584, k0_pay11 x (ix4 e r ⟨k.val / 128, by omega⟩ ⟨k.val % 128, by omega⟩) * k0_pay12 x (ix4 e r ⟨k.val / 128, by omega⟩ 0)
          * (w (ix4 e g ⟨j.val * 128 + l.val, by omega⟩ k) * ws (ix4 e g j ⟨k.val / 128, by omega⟩)))
      = dot x w ws e r g ⟨j.val * 128 + l.val, by omega⟩ := by
  refine Finset.sum_congr rfl fun k _ => ?_
  rw [pay11_at, pay12_at, xq, wq]
  have h1 : xgrp x e r ⟨k.val / 128, by omega⟩ ⟨k.val % 128, by omega⟩ = x (ix3 e r k) := by
    rw [xgrp]; exact congrArg (fun t => x (ix3 e r t)) (Fin.ext (Nat.div_add_mod' k.val 128))
  rw [h1]
  have h2 : (⟨(j.val * 128 + l.val) / 128, by omega⟩ : Fin 17) = j := Fin.ext (by show (j.val * 128 + l.val) / 128 = j.val; omega)
  show _ = _ * (_ * ws (ix4 e g ⟨(j.val * 128 + l.val) / 128, _⟩ _))
  rw [h2]

variable (sz : Vec Ideal S24 .i32) (hz : ∀ e : Fin 24, z (ix3 e 0 0) = sz (ix1 e))

include hz in
/-- The hidden values. -/
theorem pay13_at (e : Fin 24) (r : Fin 683) (j : Fin 17) (l : Fin 128) :
    k0_pay13 (k0_pay11 x) (k0_pay12 x) w ws z (ix4 e r j l) = hgrp x sz w ws e r j l := by
  rw [hid_gen, dot_at, dot_at, hz]
  rfl

/-- A hidden group's maximum of magnitudes is the fold of max over its 128 lanes. -/
theorem hfold_gen (u : FVec Ideal S24x683x17x128 .f32) (e : Fin 24) (r : Fin 683) (j : Fin 17) :
    multiReduction .maximumf [3] S24x683x17 (absf u) 0xFF800000#32 reduces_S24x683x17x128_S24x683x17 (.inl rfl) rfl (ix3 e r j)
      = Finset.fold max (Ideal.ofBits FTy.f32 4286578688#32) (fun l => FloatOps.absf (F := Ideal) (φ := .f32) (u (ix4 e r j l))) Finset.univ := by
  pointwise []

/-- The groups' values with a unit axis added, at a group. -/
theorem hcol_gen (v : FVec Ideal S24x683x17 .f32) (e : Fin 24) (r : Fin 683) (j : Fin 17) :
    shapeCast S24x683x17x1 v shapeCasts_S24x683x17_S24x683x17x1 (ix4 e r j 0) = v (ix3 e r j) := by
  pointwise []

/-- The hidden groups' scaled maximum, as its operations. -/
theorem pay14_eq (a : FVec Ideal S24x683x28x128 .bf16) (b : FVec Ideal S24x683x28x1 .bf16) : k0_pay14 a b w ws z
    = mulf (shapeCast S24x683x17x1 (multiReduction .maximumf [3] S24x683x17 (absf (k0_pay13 a b w ws z)) 0xFF800000#32 reduces_S24x683x17x128_S24x683x17 (.inl rfl) rfl) shapeCasts_S24x683x17_S24x683x17x1)
      (broadcast S24x683x17x1 (Scalar.ofBits .f32 0x3B124925#32)) := rfl

include hz in
/-- The hidden groups' scaled maximum, at a group, is `amxv` of the specification's group. -/
theorem pay14_at (e : Fin 24) (r : Fin 683) (j : Fin 17) :
    k0_pay14 (k0_pay11 x) (k0_pay12 x) w ws z (ix4 e r j 0) = amxv (hgrp x sz w ws e r j) := by
  rw [pay14_eq, mul_gen, hcol_gen, hfold_gen, ofBits_eq, amxv]
  simp only [pay13_at x w ws z sz hz]

/-- The codes over any hidden values and largest magnitudes. -/
theorem pay4_eq (h : FVec Ideal S24x683x17x128 .f32) (v : FVec Ideal S24x683x17x1 .f32) :
    k0_pay4 h v (floor (divf (log v) (log (broadcast S24x683x17x1 (Scalar.ofBits .f32 0x40000000#32))))) k0_pay16
      = shapeCast S24x683x2176 (truncf .fp8e4m3 (minimumf (broadcast S24x683x17x128 (Scalar.ofBits .f32 0x43E00000#32)) (maximumf (broadcast S24x683x17x128 (Scalar.ofBits .f32 0xC3E00000#32)) (mulf h (broadcastTo S24x683x17x128 (iT v) broadcasts_S24x683x17x1_S24x683x17x128)))) bitsLt_fp8e4m3_f32 : FVec Ideal S24x683x17x128 .fp8e4m3) shapeCasts_S24x683x17x128_S24x683x2176 := rfl

/-- The hidden groups' scale, as its operations. -/
theorem pay5_eq (v : FVec Ideal S24x683x17x1 .f32) :
    k0_pay5 v (floor (divf (log v) (log (broadcast S24x683x17x1 (Scalar.ofBits .f32 0x40000000#32))))) k0_pay16
      = shapeCast S24x683x17 (sT v) shapeCasts_S24x683x17x1_S24x683x17 := rfl

/-- The hidden codes, as their operations. -/
theorem pay15_eq (a : FVec Ideal S24x683x28x128 .bf16) (b : FVec Ideal S24x683x28x1 .bf16) : k0_pay15 a b w ws z
    = floor (divf (log (k0_pay14 a b w ws z)) (log (broadcast S24x683x17x1 (Scalar.ofBits .f32 0x40000000#32)))) := rfl

/-- A clipped product with the group's value, its groups joined, at an entry. -/
theorem hcod_gen (u : FVec Ideal S24x683x17x128 .f32) (t : FVec Ideal S24x683x17x1 .f32) (a b : EReal) (e : Fin 24) (r : Fin 683) (o : Fin 2176) :
    (shapeCast S24x683x2176 (truncf .fp8e4m3 (minimumf (broadcast S24x683x17x128 b : FVec Ideal S24x683x17x128 .f32) (maximumf (broadcast S24x683x17x128 a : FVec Ideal S24x683x17x128 .f32) (mulf u (broadcastTo S24x683x17x128 t broadcasts_S24x683x17x1_S24x683x17x128)))) bitsLt_fp8e4m3_f32 : FVec Ideal S24x683x17x128 .fp8e4m3) shapeCasts_S24x683x17x128_S24x683x2176 : FVec Ideal S24x683x2176 .fp8e4m3) (ix3 e r o)
      = min b (max a (u (ix4 e r ⟨o.val / 128, by omega⟩ ⟨o.val % 128, by omega⟩) * t (ix4 e r ⟨o.val / 128, by omega⟩ 0))) := by
  pointwise []

/-- The groups' values without the unit axis, at a group. -/
theorem hscl_gen (v : FVec Ideal S24x683x17x1 .f32) (e : Fin 24) (r : Fin 683) (j : Fin 17) :
    shapeCast S24x683x17 v shapeCasts_S24x683x17x1_S24x683x17 (ix3 e r j) = v (ix4 e r j 0) := by
  pointwise []

include hz in
/-- The second result is the scales. -/
theorem scales_at (i : S24x683x17.Idx) :
    k0_pay5 (k0_pay14 (k0_pay11 x) (k0_pay12 x) w ws z) (k0_pay15 (k0_pay11 x) (k0_pay12 x) w ws z) k0_pay16 i = outS x sz w ws i := by
  obtain ⟨e, r, j, rfl⟩ := Cert.Val.ex3 i
  rw [pay15_eq, pay5_eq, hscl_gen, Cert.Val.sT_at, pay14_at x w ws z sz hz, outS, scale]
  rfl

include hz in
/-- The first result is the codes. -/
theorem codes_at (i : S24x683x2176.Idx) :
    k0_pay4 (k0_pay13 (k0_pay11 x) (k0_pay12 x) w ws z) (k0_pay14 (k0_pay11 x) (k0_pay12 x) w ws z) (k0_pay15 (k0_pay11 x) (k0_pay12 x) w ws z) k0_pay16 i = outC x sz w ws i := by
  obtain ⟨e, r, o, rfl⟩ := Cert.Val.ex3 i
  rw [pay15_eq, pay4_eq, hcod_gen, Cert.Val.iT_at, pay14_at x w ws z sz hz, pay13_at x w ws z sz hz, outC, ofBits_eq, ofBits_eq, code]
  have h : hgrp x sz w ws e r ⟨o.val / 128, by omega⟩ ⟨o.val % 128, by omega⟩ = hid x sz w ws e r o := by
    rw [hgrp]; exact congrArg (hid x sz w ws e r) (Fin.ext (Nat.div_add_mod' o.val 128))
  rw [h]
  rfl

end Cert.ReferenceIdeal.Val

end
-- ==== Proof.RefRun.lean ====
/- The reference's run: the two result arrays after it, in the arguments' contents. -/
module

public import proofs.«01_k».proof.Proof.RefH
public import Idealize.ShloMosaic.Lib.Pipeline.Value

@[expose] public section

noncomputable section

namespace Cert.ReferenceIdeal.Val

open Cert.ReferenceIdeal Cert.ReferenceIdeal.Gen Idealize.ShloMosaic Idealize.ShloMosaic.TcCoe Idealize.SL.Sem
open Idealize.ShloMosaic.Pipeline (Dat)

section
variable {F : FTy → Type} [FloatOps F]
variable (m : (ℓ : Loc nD τ sig) → Buf (Elt F) ℓ) (ρ : Dev nD → PrngReg)

/-- WHAT POINT `t` WRITES BACK to output window 4's array: the body's result for that window (`Gen.out0_4`: its stores
    as pieces over the input windows' blocks), read through the window's block. -/
theorem flushed4 (c : Dev nD) (t : Fin cfg0.N) :
    (dats m 0 c).flushed 4 t = (cfg0.win 4).cut (grid0.coords t) (out0_4 (iblk m c 0 t) (iblk m c 1 t) (iblk m c 2 t) (iblk m c 3 t)) := by
  show (cfg0.win 4).cut (grid0.coords t) ((dats m 0 c).after 4 t) = _
  rw [after0_4]

/-- The index map sends distinct grid points to distinct block indices (decided over the 1 point). -/
theorem idx_inj4 : ∀ t t' : Fin cfg0.N, win0_4.index t = win0_4.index t' → t = t' :=
  (by decide +kernel : ∀ t t' : Fin grid0.N, win0_4.index t = win0_4.index t' → t = t')

/-- So two flushing points' blocks share no array index (Lib/Pipeline/Cells.lean `Window.disjoint_blk`). -/
theorem disjoint4 : ∀ t t' : Fin cfg0.N, (cfg0.win 4).flush t = true → (cfg0.win 4).flush t' = true → t ≠ t' →
    Disjoint ((cfg0.win 4).blk t).view.set ((cfg0.win 4).blk t').view.set :=
  fun t t' _ _ hne => (cfg0.win 4).disjoint_blk fun h => hne (idx_inj4 t t' h)

/-- BLOCK `t` OF THE FINAL ARRAY, read back through the window, is what point `t` wrote back (`flushed4`), for every
    point that writes back: no other point's block meets it. -/
theorem blocks4 (c : Dev nD) (t : Fin cfg0.N) (hf : (cfg0.win 4).flush t = true) :
    ((cfg0.win 4).blk t).view.read (Elt F) ((dats m 0 c).arrAt 4 cfg0.N) = (dats m 0 c).flushed 4 t :=
  (dats m 0 c).read_blk_arrAt_eq_flushed 4 disjoint4 cfg0.N t t.isLt hf

/-- An index that no flushing point's block covers keeps output window 4's array contents at region entry. -/
theorem entry4 (c : Dev nD) (i : S24x683x2176.Idx) (h : ∀ t : Fin cfg0.N, (cfg0.win 4).flush t = true → i ∉ ((cfg0.win 4).blk t).view.set) :
    (dats m 0 c).arrAt 4 cfg0.N i = V m c (Pipeline.arrRef spec0 4) i := by
  rw [(dats m 0 c).arrAt_apply_of_forall_not_mem 4 cfg0.N i (fun t _ hf => h t hf), A_eq]

/-- WHAT POINT `t` WRITES BACK to output window 5's array: the body's result for that window (`Gen.out0_5`: its stores
    as pieces over the input windows' blocks), read through the window's block. -/
theorem flushed5 (c : Dev nD) (t : Fin cfg0.N) :
    (dats m 0 c).flushed 5 t = (cfg0.win 5).cut (grid0.coords t) (out0_5 (iblk m c 0 t) (iblk m c 1 t) (iblk m c 2 t) (iblk m c 3 t)) := by
  show (cfg0.win 5).cut (grid0.coords t) ((dats m 0 c).after 5 t) = _
  rw [after0_5]

/-- The index map sends distinct grid points to distinct block indices (decided over the 1 point). -/
theorem idx_inj5 : ∀ t t' : Fin cfg0.N, win0_5.index t = win0_5.index t' → t = t' :=
  (by decide +kernel : ∀ t t' : Fin grid0.N, win0_5.index t = win0_5.index t' → t = t')

/-- So two flushing points' blocks share no array index (Lib/Pipeline/Cells.lean `Window.disjoint_blk`). -/
theorem disjoint5 : ∀ t t' : Fin cfg0.N, (cfg0.win 5).flush t = true → (cfg0.win 5).flush t' = true → t ≠ t' →
    Disjoint ((cfg0.win 5).blk t).view.set ((cfg0.win 5).blk t').view.set :=
  fun t t' _ _ hne => (cfg0.win 5).disjoint_blk fun h => hne (idx_inj5 t t' h)

/-- BLOCK `t` OF THE FINAL ARRAY, read back through the window, is what point `t` wrote back (`flushed5`), for every
    point that writes back: no other point's block meets it. -/
theorem blocks5 (c : Dev nD) (t : Fin cfg0.N) (hf : (cfg0.win 5).flush t = true) :
    ((cfg0.win 5).blk t).view.read (Elt F) ((dats m 0 c).arrAt 5 cfg0.N) = (dats m 0 c).flushed 5 t :=
  (dats m 0 c).read_blk_arrAt_eq_flushed 5 disjoint5 cfg0.N t t.isLt hf

/-- An index that no flushing point's block covers keeps output window 5's array contents at region entry. -/
theorem entry5 (c : Dev nD) (i : S24x683x17.Idx) (h : ∀ t : Fin cfg0.N, (cfg0.win 5).flush t = true → i ∉ ((cfg0.win 5).blk t).view.set) :
    (dats m 0 c).arrAt 5 cfg0.N i = V m c (Pipeline.arrRef spec0 5) i := by
  rw [(dats m 0 c).arrAt_apply_of_forall_not_mem 5 cfg0.N i (fun t _ hf => h t hf), A_eq]

/-- After the frame run, output window 4's array is `(dats m 0 c).arrAt 4 N`. -/
theorem post4 (r : PUnit × MemSt nD τ sig (Elt F)) (h : Pipeline.FramePost cfgs (dats m) 0 (V m) r) (c : Dev nD) :
    r.2.mem ((c : Thread nD τ).loc main_v1_0) = (dats m 0 c).arrAt 4 cfg0.N :=
  (h c).1 4

/-- After the frame run, output window 5's array is `(dats m 0 c).arrAt 5 N`. -/
theorem post5 (r : PUnit × MemSt nD τ sig (Elt F)) (h : Pipeline.FramePost cfgs (dats m) 0 (V m) r) (c : Dev nD) :
    r.2.mem ((c : Thread nD τ).loc main_v1_1) = (dats m 0 c).arrAt 5 cfg0.N :=
  (h c).1 5

/-- After the frame run, argument `main_arg0` is as launched: input window 0 stages it and never writes it back. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))

/-- After the frame run, argument `main_arg1` is as launched: no window stages it, and the run leaves the region's other buffers as they were. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).2 main_arg1 (Pipeline.mem_restRefs_of main_arg1 (by decide) (by decide))).trans (V_main_arg1 m c)

/-- After the frame run, argument `main_arg2` is as launched: input window 2 stages it and never writes it back. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).1 2).trans (((dats m 0 c).arrAt_in 2 rfl _).trans ((A_eq m c 2).trans (V_main_arg2 m c)))

/-- After the frame run, argument `main_arg3` is as launched: input window 3 stages it and never writes it back. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).1 3).trans (((dats m 0 c).arrAt_in 3 rfl _).trans ((A_eq m c 3).trans (V_main_arg3 m c)))

/-- The frame run with each output array after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v1_0) = (dats m 0 c).arrAt 4 cfg0.N
      ∧ r.2.mem ((c : Thread nD τ).loc main_v1_1) = (dats m 0 c).arrAt 5 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨post4 m r h c,
      post5 m r h c,
      kept_main_arg0 m r h c,
      kept_main_arg1 m r h c,
      kept_main_arg2 m r h c,
      kept_main_arg3 m r h c⟩)
    (run_main m ρ)

end

end Cert.ReferenceIdeal.Val

end
-- ==== Proof.RefFin.lean ====
/- The reference's result arrays are the specification's, of its arguments. -/
module

public import proofs.«01_k».proof.Proof.RefRun
public import Idealize.ShloMosaic.Lib.Pipeline.ValueKit
public import Idealize.ShloMosaic.Lib.UnfoldOut

@[expose] public section

noncomputable section

namespace Cert.ReferenceIdeal.Val

open Cert.ReferenceIdeal Cert.ReferenceIdeal.Gen Idealize.ShloMosaic Idealize.ShloMosaic.TcCoe Idealize.SL.Sem
open Idealize.ShloMosaic.Pipeline (Dat)
open Cert.Val (outC outS)

variable (m : (ℓ : Loc nD τ sig) → Buf (Elt Ideal) ℓ) (ρ : Dev nD → PrngReg)

/-- The one point. -/
def t0 : Fin cfg0.N := ⟨0, by decide⟩

/-- A rectangle at the origin of the whole shape's size changes no index. -/
theorem canon_whole {S : Shape} {e : EltTy} (off : Fin S.rank → Nat) (h : ∀ a, off a = 0) (inb : ∀ a, off a + S.size a ≤ S.size a) (X : S.Idx → Elt Ideal e) :
    View.canon [(⟨Rect.unit (s := S) off S.size inb, X⟩ : (r : Rect S) × (r.shape.Idx → Elt Ideal e))] = X :=
  View.canon_cons_unit_zero (funext h) inb X []

/-- What the body leaves in the codes' block is the specification's codes. -/
theorem out4_eq (x0 : Vec Ideal S24x683x3584 .bf16) (x1 : Vec Ideal S24x1x1 .i32) (x2 : Vec Ideal S24x2x2176x3584 .fp8e4m3) (x3 : Vec Ideal S24x2x17x28 .f32)
    (sz : Vec Ideal S24 .i32) (hz : ∀ e : Fin 24, x1 (ix3 e 0 0) = sz (ix1 e)) : out0_4 x0 x1 x2 x3 = outC x0 sz x2 x3 := by
  unfold_out out0_4
  rw [View.ld_unit_zero (funext fun a => by fin_cases a <;> rfl), View.ld_unit_zero (funext fun a => by fin_cases a <;> rfl),
    View.ld_unit_zero (funext fun a => by fin_cases a <;> rfl), View.ld_unit_zero (funext fun a => by fin_cases a <;> rfl)]
  rw [View.canon_cons_unit_zero (funext fun a => by fin_cases a <;> rfl)]
  exact funext fun i => codes_at x0 x2 x3 x1 sz hz i

/-- What the body leaves in the scales' block is the specification's scales. -/
theorem out5_eq (x0 : Vec Ideal S24x683x3584 .bf16) (x1 : Vec Ideal S24x1x1 .i32) (x2 : Vec Ideal S24x2x2176x3584 .fp8e4m3) (x3 : Vec Ideal S24x2x17x28 .f32)
    (sz : Vec Ideal S24 .i32) (hz : ∀ e : Fin 24, x1 (ix3 e 0 0) = sz (ix1 e)) : out0_5 x0 x1 x2 x3 = outS x0 sz x2 x3 := by
  unfold_out out0_5
  rw [View.ld_unit_zero (funext fun a => by fin_cases a <;> rfl), View.ld_unit_zero (funext fun a => by fin_cases a <;> rfl),
    View.ld_unit_zero (funext fun a => by fin_cases a <;> rfl), View.ld_unit_zero (funext fun a => by fin_cases a <;> rfl)]
  rw [View.canon_cons_unit_zero (funext fun a => by fin_cases a <;> rfl)]
  exact funext fun i => scales_at x0 x2 x3 x1 sz hz i

/-- Each input's block is its array. -/
theorem iblk0 (c : Dev nD) : (iblk m c 0 t0 : Vec Ideal S24x683x3584 .bf16) = m ((c : Thread nD τ).loc main_arg0) := by
  funext y
  refine Eq.trans (b := V m c main_arg0 y) (congrArg (V m c main_arg0) (a₁ := ((cfg0.win 0).blk t0).view.emb y) (a₂ := y) (funext fun a => Fin.ext ?_)) (congrFun (V_main_arg0 m c) y)
  refine (Pipeline.Window.rect_emb_val_of_index_zero (cfg0.win 0) t0 a ?_ y)
  fin_cases a <;> rfl

/-- The weights' block is the whole argument. -/
theorem iblk2 (c : Dev nD) : (iblk m c 2 t0 : Vec Ideal S24x2x2176x3584 .fp8e4m3) = m ((c : Thread nD τ).loc main_arg2) := by
  funext y
  refine Eq.trans (b := V m c main_arg2 y) (congrArg (V m c main_arg2) (a₁ := ((cfg0.win 2).blk t0).view.emb y) (a₂ := y) (funext fun a => Fin.ext ?_)) (congrFun (V_main_arg2 m c) y)
  refine (Pipeline.Window.rect_emb_val_of_index_zero (cfg0.win 2) t0 a ?_ y)
  fin_cases a <;> rfl

/-- The weight scales' block is the whole argument. -/
theorem iblk3 (c : Dev nD) : (iblk m c 3 t0 : Vec Ideal S24x2x17x28 .f32) = m ((c : Thread nD τ).loc main_arg3) := by
  funext y
  refine Eq.trans (b := V m c main_arg3 y) (congrArg (V m c main_arg3) (a₁ := ((cfg0.win 3).blk t0).view.emb y) (a₂ := y) (funext fun a => Fin.ext ?_)) (congrFun (V_main_arg3 m c) y)
  refine (Pipeline.Window.rect_emb_val_of_index_zero (cfg0.win 3) t0 a ?_ y)
  fin_cases a <;> rfl

/-- The launch finds the sizes with two unit axes added. -/
theorem V_main_v0 (c : Dev nD) : V m c main_v0 = shapeCast S24x1x1 (m ((c : Thread nD τ).loc main_arg1)) shapeCasts_S24_S24x1x1 := rfl

/-- The sizes' block, at an expert, is the expert's size. -/
theorem iblk1 (c : Dev nD) (e : Fin 24) : (iblk m c 1 t0 : Vec Ideal S24x1x1 .i32) (ix3 e 0 0) = (m ((c : Thread nD τ).loc main_arg1) : Vec Ideal S24 .i32) (ix1 e) := by
  refine Eq.trans (b := V m c main_v0 (ix3 e 0 0 : S24x1x1.Idx)) (congrArg (V m c main_v0) (a₁ := ((cfg0.win 1).blk t0).view.emb (ix3 e 0 0 : S24x1x1.Idx)) (a₂ := (ix3 e 0 0 : S24x1x1.Idx)) (funext fun a => Fin.ext ?_)) ((congrFun (V_main_v0 m c) (ix3 e 0 0 : S24x1x1.Idx)).trans ?_)
  · refine (Pipeline.Window.rect_emb_val_of_index_zero (cfg0.win 1) t0 a ?_ _)
    fin_cases a <;> rfl
  · generalize (m ((c : Thread nD τ).loc main_arg1) : Vec Ideal S24 .i32) = s
    pointwise []

/-- The codes' array after the run. -/
theorem arr4 (c : Dev nD) : (dats m 0 c).arrAt 4 cfg0.N = outC (m ((c : Thread nD τ).loc main_arg0)) (m ((c : Thread nD τ).loc main_arg1)) (m ((c : Thread nD τ).loc main_arg2)) (m ((c : Thread nD τ).loc main_arg3)) := by
  have hb := blocks4 m c t0 (by decide)
  rw [flushed4, out4_eq _ _ _ _ _ (iblk1 m c), iblk0, iblk2, iblk3] at hb
  funext y
  refine Eq.trans ?_ (congrFun hb y)
  refine congrArg _ (funext fun a => Fin.ext ?_)
  refine (Pipeline.Window.rect_emb_val_of_index_zero (cfg0.win 4) t0 a ?_ y).symm
  fin_cases a <;> rfl

/-- The scales' array after the run. -/
theorem arr5 (c : Dev nD) : (dats m 0 c).arrAt 5 cfg0.N = outS (m ((c : Thread nD τ).loc main_arg0)) (m ((c : Thread nD τ).loc main_arg1)) (m ((c : Thread nD τ).loc main_arg2)) (m ((c : Thread nD τ).loc main_arg3)) := by
  have hb := blocks5 m c t0 (by decide)
  rw [flushed5, out5_eq _ _ _ _ _ (iblk1 m c), iblk0, iblk2, iblk3] at hb
  funext y
  refine Eq.trans ?_ (congrFun hb y)
  refine congrArg _ (funext fun a => Fin.ext ?_)
  refine (Pipeline.Window.rect_emb_val_of_index_zero (cfg0.win 5) t0 a ?_ y).symm
  fin_cases a <;> rfl

/-- The reference's run: its two results are the specification's of its arguments, which stay. -/
theorem run_value : θ_run defs (onTc (τ := τ) (main (F := Ideal))) ⟨m, fun _ => 0, ρ⟩ fun r => ∀ c : Dev nD,
      r.2.mem ((c : Thread nD τ).loc main_v1_0) = outC (m ((c : Thread nD τ).loc main_arg0)) (m ((c : Thread nD τ).loc main_arg1)) (m ((c : Thread nD τ).loc main_arg2)) (m ((c : Thread nD τ).loc main_arg3))
      ∧ r.2.mem ((c : Thread nD τ).loc main_v1_1) = outS (m ((c : Thread nD τ).loc main_arg0)) (m ((c : Thread nD τ).loc main_arg1)) (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (arr4 m c), (h c).2.1.trans (arr5 m c), (h c).2.2⟩) (run_blocks m ρ)

end Cert.ReferenceIdeal.Val

end
-- ==== Proof.lean ====
module

public import proofs.«01_k».proof.Defs
public import proofs.«01_k».proof.Proof.Gen.Kernel
public import proofs.«01_k».proof.Proof.Gen.KernelIdeal
public import proofs.«01_k».proof.Proof.Gen.KernelIdeal.Launch
public import proofs.«01_k».proof.Proof.Gen.ReferenceIdeal.Frame
public import proofs.«01_k».proof.Proof.FrameK
public import proofs.«01_k».proof.Proof.KVal
public import proofs.«01_k».proof.Proof.RefFin
public import Idealize.ShloMosaic.Adequacy
public import Idealize.ShloMosaic.Init

@[expose] public section

noncomputable section

namespace Cert.Proof

open Idealize.ShloMosaic Idealize.SL.Sem Cert.Kernel

/-- The kernel and the reference, run on the same arguments, leave the same two results: both are `outC` and `outS` of the arguments. -/
theorem algebraic : Cert.algebraic_KernelIdeal_ReferenceIdeal (hKernelIdeal := Cert.KernelIdeal.Gen.facts) (hReferenceIdeal := Cert.ReferenceIdeal.Gen.facts) := by
  intro m g m' g' _ hm
  refine ⟨_, _, Cert.KernelIdeal.Run.run_value m g, ?_⟩
  refine (θ_run _ _ _).mono (fun r h c => ?_) (Cert.ReferenceIdeal.Val.run_value m' g')
  obtain ⟨h0, h1, hk⟩ := h c
  obtain ⟨e0, e1, e2, e3⟩ := hm c
  refine ⟨h0.trans ?_, h1.trans ?_, hk⟩
  · exact congr (congr (congr (congrArg Cert.Val.outC e0) e1) e2) e3
  · exact congr (congr (congr (congrArg Cert.Val.outS e0) e1) e2) e3

/-- The certificate. -/
theorem claim : Cert.Claim :=
  ⟨Cert.Kernel.Gen.facts, Cert.KernelIdeal.Gen.facts, Cert.ReferenceIdeal.Gen.facts, Cert.FrameK.frameK, Cert.FrameK.frameKI,
    fun m ρ _ => Cert.ReferenceIdeal.Gen.frame m ρ, trivial, algebraic⟩

end Cert.Proof

end
